-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_vocab [hPre_targets_in_vocab : Cert.Pre_targets_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_vocab [hPre_targets_in_vocab : Cert.Pre_targets_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_targets_in_vocab [hKernelIdeal : Cert.KernelIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_targets_in_vocab [hReferenceIdeal : Cert.ReferenceIdeal.Facts] [hPre_targets_in_vocab : Cert.Pre_targets_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softcap_log2e" .f32 0x422D1F97#32 ((30 * (Real.log 2)⁻¹ : ℝ) : EReal)

def algebraic_KernelIdeal_ReferenceIdeal_pre_targets_in_vocab [hKernelIdeal : Cert.KernelIdeal.Facts] [hReferenceIdeal : Cert.ReferenceIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_targets_in_vocab : Cert.Pre_targets_in_vocab.Facts),
    quiescent_Kernel (hKernel := hKernel)
    ∧ quiescent_KernelIdeal (hKernelIdeal := hKernelIdeal)
    ∧ quiescent_KernelIdeal_pre_targets_in_vocab (hKernelIdeal := hKernelIdeal) (hPre_targets_in_vocab := hPre_targets_in_vocab)
    ∧ quiescent_ReferenceIdeal (hReferenceIdeal := hReferenceIdeal)
    ∧ quiescent_ReferenceIdeal_pre_targets_in_vocab (hReferenceIdeal := hReferenceIdeal) (hPre_targets_in_vocab := hPre_targets_in_vocab)
    ∧ preserves_Kernel_KernelIdeal
    ∧ algebraic_KernelIdeal_ReferenceIdeal_pre_targets_in_vocab (hKernelIdeal := hKernelIdeal) (hReferenceIdeal := hReferenceIdeal) (hPre_targets_in_vocab := hPre_targets_in_vocab)
-- ==== Pre_targets_in_vocab.lean ====
abbrev S8x384x6144 : Shape := ⟨3, ![8, 384, 6144]⟩
abbrev S5120x6144 : Shape := ⟨2, ![5120, 6144]⟩
abbrev S5120 : Shape := ⟨1, ![5120]⟩
abbrev S60416x3072 : Shape := ⟨2, ![60416, 3072]⟩
abbrev S60416x48 : Shape := ⟨2, ![60416, 48]⟩
abbrev S8x384 : Shape := ⟨2, ![8, 384]⟩
abbrev S_ : Shape := ⟨0, ![]⟩

class Facts : Prop where
  bcast_S_S8x384 : S_.BroadcastsInDim S8x384 (![] : Fin 0 → Fin S8x384.rank)
  reducesTo_S8x384_S_d0_1 : S8x384.ReducesTo [0, 1] S_
  h_S_ : 0 < S_.numel

variable [Facts]

def fn {F : FTy → Type} [FloatOps F] (main_arg0 : FVec F S8x384x6144 .bf16) (main_arg1 : FVec F S5120x6144 .fp8e4m3) (main_arg2 : FVec F S5120 .f32) (main_arg3 : IVec S60416x3072 8) (main_arg4 : FVec F S60416x48 .bf16) (main_arg5 : IVec S8x384 32) : IVec S_ 1 :=
  let main_c : IVec S_ 32 := constantI S_ 32 65536#32
  let main_v0 : IVec S8x384 32 := broadcastInDim S8x384 ![] bcast_S_S8x384 main_c
  let main_v1 : IVec S8x384 1 := cmpi .slt main_arg5 main_v0
  let main_c_0 : IVec S_ 1 := constantI S_ 1 1#1
  let main_v2 : IVec S_ 1 := (fun x v => Host.reduce IntOp.andi x v reducesTo_S8x384_S_d0_1 h_S_) main_v1 main_c_0
  main_v2
-- ==== Kernel.lean ====
abbrev S8x384x6144 : Shape := ⟨3, ![8, 384, 6144]⟩
abbrev S5120x6144 : Shape := ⟨2, ![5120, 6144]⟩
abbrev S5120 : Shape := ⟨1, ![5120]⟩
abbrev S60416x3072 : Shape := ⟨2, ![60416, 3072]⟩
abbrev S60416x48 : Shape := ⟨2, ![60416, 48]⟩
abbrev S8x384 : Shape := ⟨2, ![8, 384]⟩
abbrev S3072x6144 : Shape := ⟨2, ![3072, 6144]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S256x6144 : Shape := ⟨2, ![256, 6144]⟩
abbrev S3072x1 : Shape := ⟨2, ![3072, 1]⟩
abbrev S3072x128 : Shape := ⟨2, ![3072, 128]⟩
abbrev S1x5120 : Shape := ⟨2, ![1, 5120]⟩
abbrev S512x6144 : Shape := ⟨2, ![512, 6144]⟩
abbrev S1x512 : Shape := ⟨2, ![1, 512]⟩
abbrev S512x512 : Shape := ⟨2, ![512, 512]⟩
abbrev S512x128 : Shape := ⟨2, ![512, 128]⟩
abbrev S512x3072 : Shape := ⟨2, ![512, 3072]⟩
abbrev S512x48 : Shape := ⟨2, ![512, 48]⟩
abbrev S128x128 : Shape := ⟨2, ![128, 128]⟩
abbrev S512x1 : Shape := ⟨2, ![512, 1]⟩
abbrev S3072 : Shape := ⟨1, ![3072]⟩

abbrev nBuf : Space → Nat
  | .hbm => 97
  | .vmem => 32
  | .smem => 0
  | _ => 0

abbrev bufTy : (tb : Table) → Fin (tcTables nBuf tb) → BufTy
  | .hbm, ⟨0, _⟩ => ⟨S8x384x6144, .bf16⟩
  | .hbm, ⟨1, _⟩ => ⟨S5120x6144, .fp8e4m3⟩
  | .hbm, ⟨2, _⟩ => ⟨S5120, .f32⟩
  | .hbm, ⟨3, _⟩ => ⟨S60416x3072, .i8⟩
  | .hbm, ⟨4, _⟩ => ⟨S60416x48, .bf16⟩
  | .hbm, ⟨5, _⟩ => ⟨S8x384, .i32⟩
  | .hbm, ⟨6, _⟩ => ⟨S3072x6144, .bf16⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S_, .i1⟩
  | .hbm, ⟨24, _⟩ => ⟨S256, .i1⟩
  | .hbm, ⟨25, _⟩ => ⟨S256, .i1⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S_, .i32⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i1⟩
  | .hbm, ⟨59, _⟩ => ⟨S256, .i32⟩
  | .hbm, ⟨60, _⟩ => ⟨S256, .i32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S256, .i1⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S256, .i32⟩
  | .hbm, ⟨73, _⟩ => ⟨S256x1, .i32⟩
  | .hbm, ⟨74, _⟩ => ⟨S256, .i32⟩
  | .hbm, ⟨75, _⟩ => ⟨S1x256, .i32⟩
  | .hbm, ⟨76, _⟩ => ⟨S256x256, .i32⟩
  | .hbm, ⟨77, _⟩ => ⟨S256x256, .i32⟩
  | .hbm, ⟨78, _⟩ => ⟨S256x256, .i1⟩
  | .hbm, ⟨79, _⟩ => ⟨S256x256, .bf16⟩
  | .hbm, ⟨80, _⟩ => ⟨S3072x6144, .bf16⟩
  | .hbm, ⟨81, _⟩ => ⟨S3072x1, .i32⟩
  | .hbm, ⟨82, _⟩ => ⟨S3072x128, .i32⟩
  | .hbm, ⟨83, _⟩ => ⟨S1x5120, .f32⟩
  | .hbm, ⟨84, _⟩ => ⟨S3072x128, .f32⟩
  | .hbm, ⟨85, _⟩ => ⟨S3072x128, .f32⟩
  | .hbm, ⟨86, _⟩ => ⟨S3072x128, .f32⟩
  | .hbm, ⟨87, _⟩ => ⟨S3072x128, .f32⟩
  | .hbm, ⟨88, _⟩ => ⟨S3072x1, .i32⟩
  | .hbm, ⟨89, _⟩ => ⟨S3072x1, .f32⟩
  | .hbm, ⟨90, _⟩ => ⟨S3072x1, .f32⟩
  | .hbm, ⟨91, _⟩ => ⟨S3072x1, .f32⟩
  | .hbm, ⟨92, _⟩ => ⟨S3072x1, .f32⟩
  | .hbm, ⟨93, _⟩ => ⟨S8x384, .f32⟩
  | .hbm, ⟨94, _⟩ => ⟨S8x384, .f32⟩
  | .hbm, ⟨95, _⟩ => ⟨S8x384, .f32⟩
  | .hbm, ⟨96, _⟩ => ⟨S8x384, .f32⟩
  | .local _ .vmem, ⟨0, _⟩ => ⟨S256x6144, .bf16⟩
  | .local _ .vmem, ⟨1, _⟩ => ⟨S256x6144, .bf16⟩
  | .local _ .vmem, ⟨2, _⟩ => ⟨S256x256, .bf16⟩
  | .local _ .vmem, ⟨3, _⟩ => ⟨S256x6144, .bf16⟩
  | .local _ .vmem, ⟨4, _⟩ => ⟨S256x6144, .bf16⟩
  | .local _ .vmem, ⟨5, _⟩ => ⟨S3072x6144, .bf16⟩
  | .local _ .vmem, ⟨6, _⟩ => ⟨S512x6144, .fp8e4m3⟩
  | .local _ .vmem, ⟨7, _⟩ => ⟨S512x6144, .fp8e4m3⟩
  | .local _ .vmem, ⟨8, _⟩ => ⟨S1x512, .f32⟩
  | .local _ .vmem, ⟨9, _⟩ => ⟨S1x512, .f32⟩
  | .local _ .vmem, ⟨10, _⟩ => ⟨S3072x128, .i32⟩
  | .local _ .vmem, ⟨11, _⟩ => ⟨S3072x128, .f32⟩
  | .local _ .vmem, ⟨12, _⟩ => ⟨S3072x128, .f32⟩
  | .local _ .vmem, ⟨13, _⟩ => ⟨S512x6144, .bf16⟩
  | .local _ .vmem, ⟨14, _⟩ => ⟨S3072x6144, .bf16⟩
  | .local _ .vmem, ⟨15, _⟩ => ⟨S512x3072, .i8⟩
  | .local _ .vmem, ⟨16, _⟩ => ⟨S512x3072, .i8⟩
  | .local _ .vmem, ⟨17, _⟩ => ⟨S512x48, .bf16⟩
  | .local _ .vmem, ⟨18, _⟩ => ⟨S512x48, .bf16⟩
  | .local _ .vmem, ⟨19, _⟩ => ⟨S3072x128, .i32⟩
  | .local _ .vmem, ⟨20, _⟩ => ⟨S3072x128, .f32⟩
  | .local _ .vmem, ⟨21, _⟩ => ⟨S3072x128, .f32⟩
  | .local _ .vmem, ⟨22, _⟩ => ⟨S512x6144, .bf16⟩
  | .local _ .vmem, ⟨23, _⟩ => ⟨S3072x128, .f32⟩
  | .local _ .vmem, ⟨24, _⟩ => ⟨S3072x128, .f32⟩
  | .local _ .vmem, ⟨25, _⟩ => ⟨S3072x128, .f32⟩
  | .local _ .vmem, ⟨26, _⟩ => ⟨S3072x128, .f32⟩
  | .local _ .vmem, ⟨27, _⟩ => ⟨S3072x1, .i32⟩
  | .local _ .vmem, ⟨28, _⟩ => ⟨S3072x1, .f32⟩
  | .local _ .vmem, ⟨29, _⟩ => ⟨S3072x1, .f32⟩
  | .local _ .vmem, ⟨30, _⟩ => ⟨S3072x1, .f32⟩
  | .local _ .vmem, ⟨31, _⟩ => ⟨S3072x1, .f32⟩
  | _, _ => ⟨S8x384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v5 : Ref sig .tc := ⟨.hbm, 50, rfl⟩
abbrev main_c_2 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v6 : Ref sig .tc := ⟨.hbm, 68, rfl⟩
abbrev main_c_3 : Ref sig .tc := ⟨.hbm, 69, rfl⟩
abbrev main_v7 : Ref sig .tc := ⟨.hbm, 70, rfl⟩
abbrev main_v8 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21_0 : Ref sig .tc := ⟨.hbm, 84, rfl⟩
abbrev main_v21_1 : Ref sig .tc := ⟨.hbm, 85, rfl⟩
abbrev main_v22_0 : Ref sig .tc := ⟨.hbm, 86, rfl⟩
abbrev main_v22_1 : Ref sig .tc := ⟨.hbm, 87, rfl⟩
abbrev main_v23 : Ref sig .tc := ⟨.hbm, 88, rfl⟩
abbrev main_v24_0 : Ref sig .tc := ⟨.hbm, 89, rfl⟩
abbrev main_v24_1 : Ref sig .tc := ⟨.hbm, 90, rfl⟩
abbrev main_v24_2 : Ref sig .tc := ⟨.hbm, 91, rfl⟩
abbrev main_v24_3 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem8_0 : DmaSem sig := 29

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3072x6144 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x6144 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3072x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3072x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3072x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![118], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S3072x6144 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x3072 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x48 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3072x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3072x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3072x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := .none

abbrev stage3_0 : Fin 1 → Memref sig .tc .vmem S3072x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S3072x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S3072x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S3072x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S3072x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S3072x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S3072x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S3072x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S3072x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
-- ==== KernelIdeal.lean ====
variable {F : FTy → Type} [FloatOps F] [Named F]
def κ : String → Option EReal := fun
  | "softcap_log2e" => some ((30 * (Real.log 2)⁻¹ : ℝ) : EReal)
  | _ => none
-- ==== ReferenceIdeal.lean ====
abbrev S8x384x6144 : Shape := ⟨3, ![8, 384, 6144]⟩
abbrev S5120x6144 : Shape := ⟨2, ![5120, 6144]⟩
abbrev S5120 : Shape := ⟨1, ![5120]⟩
abbrev S60416x3072 : Shape := ⟨2, ![60416, 3072]⟩
abbrev S60416x48 : Shape := ⟨2, ![60416, 48]⟩
abbrev S8x384 : Shape := ⟨2, ![8, 384]⟩
abbrev S8x384x5120 : Shape := ⟨3, ![8, 384, 5120]⟩
abbrev S1x1x5120 : Shape := ⟨3, ![1, 1, 5120]⟩
abbrev S_ : Shape := ⟨0, ![]⟩
abbrev S60416x48x64 : Shape := ⟨3, ![60416, 48, 64]⟩
abbrev S60416x48x1 : Shape := ⟨3, ![60416, 48, 1]⟩
abbrev S8x384x3072 : Shape := ⟨3, ![8, 384, 3072]⟩
abbrev S8x384x60416 : Shape := ⟨3, ![8, 384, 60416]⟩
abbrev S8x384x1 : Shape := ⟨3, ![8, 384, 1]⟩
abbrev S8x384x1x1 : Shape := ⟨4, ![8, 384, 1, 1]⟩
abbrev S1 : Shape := ⟨1, ![1]⟩
abbrev S1x1x1x1 : Shape := ⟨4, ![1, 1, 1, 1]⟩

abbrev nBuf : Space → Nat
  | .hbm => 172
  | .vmem => 2
  | .smem => 0
  | _ => 0

abbrev hbmTy0_0 (i : Nat) : BufTy := match i % 128 with
  | 0 => ⟨S8x384x6144, .bf16⟩
  | 1 => ⟨S5120x6144, .fp8e4m3⟩
  | 2 => ⟨S5120, .f32⟩
  | 3 => ⟨S60416x3072, .i8⟩
  | 4 => ⟨S60416x48, .bf16⟩
  | 5 => ⟨S8x384, .i32⟩
  | 6 => ⟨S5120x6144, .bf16⟩
  | 7 => ⟨S8x384x5120, .f32⟩
  | 8 => ⟨S1x1x5120, .f32⟩
  | 9 => ⟨S8x384x5120, .f32⟩
  | 10 => ⟨S8x384x5120, .f32⟩
  | 11 => ⟨S_, .f32⟩
  | 12 => ⟨S8x384x5120, .f32⟩
  | 13 => ⟨S8x384x5120, .f32⟩
  | 14 => ⟨S8x384x5120, .f32⟩
  | 15 => ⟨S_, .f32⟩
  | 16 => ⟨S8x384x5120, .f32⟩
  | 17 => ⟨S8x384x5120, .f32⟩
  | 18 => ⟨S60416x3072, .i32⟩
  | 19 => ⟨S_, .i32⟩
  | 20 => ⟨S60416x3072, .i32⟩
  | 21 => ⟨S60416x3072, .i32⟩
  | 22 => ⟨S_, .i32⟩
  | 23 => ⟨S60416x3072, .i32⟩
  | 24 => ⟨S60416x3072, .i1⟩
  | 25 => ⟨S_, .i32⟩
  | 26 => ⟨S60416x3072, .i32⟩
  | 27 => ⟨S60416x3072, .i32⟩
  | 28 => ⟨S60416x3072, .i32⟩
  | 29 => ⟨S60416x3072, .bf16⟩
  | 30 => ⟨S60416x48x64, .bf16⟩
  | 31 => ⟨S60416x48x1, .bf16⟩
  | 32 => ⟨S60416x48x64, .bf16⟩
  | 33 => ⟨S60416x48x64, .bf16⟩
  | 34 => ⟨S60416x3072, .bf16⟩
  | 35 => ⟨S_, .i32⟩
  | 36 => ⟨S60416x3072, .i32⟩
  | 37 => ⟨S60416x3072, .i32⟩
  | 38 => ⟨S_, .i32⟩
  | 39 => ⟨S60416x3072, .i32⟩
  | 40 => ⟨S60416x3072, .i1⟩
  | 41 => ⟨S_, .i32⟩
  | 42 => ⟨S60416x3072, .i32⟩
  | 43 => ⟨S60416x3072, .i32⟩
  | 44 => ⟨S60416x3072, .i32⟩
  | 45 => ⟨S60416x3072, .bf16⟩
  | 46 => ⟨S60416x48x64, .bf16⟩
  | 47 => ⟨S60416x48x1, .bf16⟩
  | 48 => ⟨S60416x48x64, .bf16⟩
  | 49 => ⟨S60416x48x64, .bf16⟩
  | 50 => ⟨S60416x3072, .bf16⟩
  | 51 => ⟨S8x384x3072, .bf16⟩
  | 52 => ⟨S8x384x60416, .f32⟩
  | 53 => ⟨S8x384x3072, .bf16⟩
  | 54 => ⟨S8x384x60416, .f32⟩
  | 55 => ⟨S8x384x60416, .f32⟩
  | 56 => ⟨S_, .f32⟩
  | 57 => ⟨S8x384x60416, .f32⟩
  | 58 => ⟨S8x384x60416, .f32⟩
  | 59 => ⟨S8x384x60416, .f32⟩
  | 60 => ⟨S_, .f32⟩
  | 61 => ⟨S8x384x60416, .f32⟩
  | 62 => ⟨S8x384x60416, .f32⟩
  | 63 => ⟨S_, .f32⟩
  | 64 => ⟨S8x384, .f32⟩
  | 65 => ⟨S8x384x1, .f32⟩
  | 66 => ⟨S8x384x5120, .f32⟩
  | 67 => ⟨S8x384x5120, .f32⟩
  | 68 => ⟨S8x384x5120, .f32⟩
  | 69 => ⟨S_, .f32⟩
  | 70 => ⟨S8x384, .f32⟩
  | 71 => ⟨S8x384, .f32⟩
  | 72 => ⟨S8x384, .f32⟩
  | 73 => ⟨S_, .f32⟩
  | 74 => ⟨S8x384, .f32⟩
  | 75 => ⟨S8x384x1, .f32⟩
  | 76 => ⟨S8x384x60416, .f32⟩
  | 77 => ⟨S8x384x60416, .f32⟩
  | 78 => ⟨S8x384x60416, .f32⟩
  | 79 => ⟨S_, .f32⟩
  | 80 => ⟨S8x384, .f32⟩
  | 81 => ⟨S8x384, .f32⟩
  | 82 => ⟨S8x384, .f32⟩
  | 83 => ⟨S8x384, .f32⟩
  | 84 => ⟨S8x384, .f32⟩
  | 85 => ⟨S8x384, .i1⟩
  | 86 => ⟨S8x384, .f32⟩
  | 87 => ⟨S8x384, .f32⟩
  | 88 => ⟨S8x384, .f32⟩
  | 89 => ⟨S8x384, .f32⟩
  | 90 => ⟨S8x384, .f32⟩
  | 91 => ⟨S8x384, .f32⟩
  | 92 => ⟨S8x384, .f32⟩
  | 93 => ⟨S_, .i32⟩
  | 94 => ⟨S_, .i32⟩
  | 95 => ⟨S_, .i32⟩
  | 96 => ⟨S8x384, .i32⟩
  | 97 => ⟨S8x384, .i32⟩
  | 98 => ⟨S_, .i32⟩
  | 99 => ⟨S8x384, .i32⟩
  | 100 => ⟨S8x384, .i32⟩
  | 101 => ⟨S_, .i32⟩
  | 102 => ⟨S8x384, .i32⟩
  | 103 => ⟨S8x384, .i32⟩
  | 104 => ⟨S_, .i32⟩
  | 105 => ⟨S_, .i32⟩
  | 106 => ⟨S_, .i32⟩
  | 107 => ⟨S8x384, .i32⟩
  | 108 => ⟨S8x384, .i32⟩
  | 109 => ⟨S_, .i32⟩
  | 110 => ⟨S8x384, .i32⟩
  | 111 => ⟨S8x384, .i32⟩
  | 112 => ⟨S8x384x1, .i32⟩
  | 113 => ⟨S_, .i32⟩
  | 114 => ⟨S8x384x1, .i32⟩
  | 115 => ⟨S8x384x1, .i1⟩
  | 116 => ⟨S_, .i32⟩
  | 117 => ⟨S8x384x1, .i32⟩
  | 118 => ⟨S8x384x1, .i32⟩
  | 119 => ⟨S8x384x1, .i32⟩
  | 120 => ⟨S8x384x1x1, .i32⟩
  | 121 => ⟨S1, .i32⟩
  | 122 => ⟨S_, .i32⟩
  | 123 => ⟨S8x384x1x1, .i32⟩
  | 124 => ⟨S8x384x1x1, .i1⟩
  | 125 => ⟨S1x1x1x1, .i32⟩
  | 126 => ⟨S8x384x1x1, .i32⟩
  | 127 => ⟨S8x384x1x1, .i1⟩
  | _ => ⟨S8x384x6144, .bf16⟩

abbrev hbmTy0_1 (i : Nat) : BufTy := match i % 128 with
  | 0 => ⟨S8x384x1x1, .i1⟩
  | 1 => ⟨S_, .i1⟩
  | 2 => ⟨S8x384x1, .i1⟩
  | 3 => ⟨S8x384x1, .f32⟩
  | 4 => ⟨S_, .f32⟩
  | 5 => ⟨S8x384x1, .f32⟩
  | 6 => ⟨S8x384x1, .f32⟩
  | 7 => ⟨S8x384, .f32⟩
  | 8 => ⟨S8x384x1, .i32⟩
  | 9 => ⟨S_, .i32⟩
  | 10 => ⟨S8x384x1, .i32⟩
  | 11 => ⟨S8x384x1, .i1⟩
  | 12 => ⟨S_, .i32⟩
  | 13 => ⟨S8x384x1, .i32⟩
  | 14 => ⟨S8x384x1, .i32⟩
  | 15 => ⟨S8x384x1, .i32⟩
  | 16 => ⟨S8x384x1x1, .i32⟩
  | 17 => ⟨S1, .i32⟩
  | 18 => ⟨S_, .i32⟩
  | 19 => ⟨S8x384x1x1, .i32⟩
  | 20 => ⟨S8x384x1x1, .i1⟩
  | 21 => ⟨S1x1x1x1, .i32⟩
  | 22 => ⟨S8x384x1x1, .i32⟩
  | 23 => ⟨S8x384x1x1, .i1⟩
  | 24 => ⟨S8x384x1x1, .i1⟩
  | 25 => ⟨S_, .i1⟩
  | 26 => ⟨S8x384x1, .i1⟩
  | 27 => ⟨S8x384x1, .f32⟩
  | 28 => ⟨S_, .f32⟩
  | 29 => ⟨S8x384x1, .f32⟩
  | 30 => ⟨S8x384x1, .f32⟩
  | 31 => ⟨S8x384, .f32⟩
  | 32 => ⟨S_, .i32⟩
  | 33 => ⟨S8x384, .i32⟩
  | 34 => ⟨S8x384, .i1⟩
  | 35 => ⟨S8x384, .f32⟩
  | 36 => ⟨S_, .i32⟩
  | 37 => ⟨S8x384, .i32⟩
  | 38 => ⟨S8x384, .i1⟩
  | 39 => ⟨S8x384, .f32⟩
  | 40 => ⟨S_, .f32⟩
  | 41 => ⟨S_, .f32⟩
  | 42 => ⟨S8x384, .f32⟩
  | 43 => ⟨S8x384, .f32⟩
  | _ => ⟨S8x384x6144, .bf16⟩

abbrev hbmTy (i : Nat) : BufTy := match i / 128 with
  | 0 => hbmTy0_0 i
  | 1 => hbmTy0_1 i
  | _ => ⟨S8x384x6144, .bf16⟩

abbrev bufTy : (tb : Table) → Fin (tcTables nBuf tb) → BufTy
  | .hbm, ⟨i, _⟩ => hbmTy i
  | .local _ .vmem, ⟨0, _⟩ => ⟨S5120x6144, .fp8e4m3⟩
  | .local _ .vmem, ⟨1, _⟩ => ⟨S5120x6144, .bf16⟩
  | _, _ => ⟨S8x384x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_12 : Ref sig .tc := ⟨.hbm, 93, rfl⟩
abbrev main_c_13 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_c_15 : Ref sig .tc := ⟨.hbm, 104, rfl⟩
abbrev main_c_16 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v76 : Ref sig .tc := ⟨.hbm, 111, rfl⟩
abbrev main_v77 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_cst : Ref sig .tc := ⟨.hbm, 132, rfl⟩
abbrev main_call4_v14 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_call5_c : Ref sig .tc := ⟨.hbm, 137, rfl⟩
abbrev main_call5_v0 : Ref sig .tc := ⟨.hbm, 138, rfl⟩
abbrev main_call5_v1 : Ref sig .tc := ⟨.hbm, 139, rfl⟩
abbrev main_call5_c_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_c_1 : Ref sig .tc := ⟨.hbm, 145, rfl⟩
abbrev main_call5_c_2 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_3 : Ref sig .tc := ⟨.hbm, 153, rfl⟩
abbrev main_call5_v12 : Ref sig .tc := ⟨.hbm, 154, rfl⟩
abbrev main_call5_v13 : Ref sig .tc := ⟨.hbm, 155, rfl⟩
abbrev main_call5_cst : Ref sig .tc := ⟨.hbm, 156, rfl⟩
abbrev main_call5_v14 : Ref sig .tc := ⟨.hbm, 157, rfl⟩
abbrev main_v81 : Ref sig .tc := ⟨.hbm, 158, rfl⟩
abbrev main_v82 : Ref sig .tc := ⟨.hbm, 159, rfl⟩
abbrev main_c_17 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_c_18 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_19 : Ref sig .tc := ⟨.hbm, 168, rfl⟩
abbrev main_call7_v0 : Ref sig .tc := ⟨.hbm, 169, rfl⟩
abbrev main_call7_v1 : Ref sig .tc := ⟨.hbm, 170, rfl⟩
abbrev main_v89 : Ref sig .tc := ⟨.hbm, 171, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S5120x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRun.lean ====
/-
  The kernel's run with its results: it ends with each result's array holding what the last host operations leave there, and
  the arguments as they were. The argument is that of the run that keeps the arguments; only the state read at the end is
  larger.
-/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the theorem applied leaves arguments to be found by unifying its conclusion with this one, which takes unfolding plain
-- definitions in their types
set_option backward.isDefEq.respectTransparency.types false in
/-- From any memory with zero counters every run of the kernel ends, with its four results' arrays at what the last host
    operations leave in them and its arguments unchanged. -/
theorem run : θ_run defs (onTc (τ := τ) (main (F := Ideal))) ⟨m, fun _ => 0, ρ⟩ (fun r => ∀ c : Dev nD,
      r.2.mem ((c.tc : Thread nD τ).loc main_v25) = W16 m ρ c (Proc.devRef .tc main_v25)
      ∧ r.2.mem ((c.tc : Thread nD τ).loc main_v26) = W16 m ρ c (Proc.devRef .tc main_v26)
      ∧ r.2.mem ((c.tc : Thread nD τ).loc main_v27) = W16 m ρ c (Proc.devRef .tc main_v27)
      ∧ r.2.mem ((c.tc : Thread nD τ).loc main_v28) = W16 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v25 (by decide)),
       h c _ (mem_uc main_v26 (by decide)),
       h c _ (mem_uc main_v27 (by decide)),
       h c _ (mem_uc main_v28 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.Value

end
-- ==== Proof.Tile.lean ====
/-
  One 512 x 512 tile of logits, as both tiers use it, read at an index over the extended reals: the capped logit, its
  exponential, and what a tile adds to the 128 lanes of a row - the four exponentials in that lane, and the four capped
  logits in that lane where the target is.
-/
module

public import proofs.«01_k».proof.Proof.Gen.KernelIdeal.Skeleton
public import Idealize.ShloMosaic.Lib.Pipeline.Value
public import Idealize.ShloMosaic.Lib.Pipeline.ReadBack
public import Idealize.ShloMosaic.Lib.Pipeline.ValueKit.Tiles
public import Idealize.ShloMosaic.Lib.MatmulPlain
public import Idealize.ShloMosaic.Lib.ValueIdx
public import Idealize.ShloMosaic.Lib.Tactic

@[expose] public section

set_option maxRecDepth 16384

noncomputable section

open Idealize.ShloMosaic Idealize.ShloMosaic.ValueIdx

namespace Cert.KernelIdeal.Value

open Cert.KernelIdeal Cert.KernelIdeal.Gen

/-- The offsets of a read or a store of a whole rank-2 buffer. -/
theorem hz : (![0, 0] : Fin 2 → Nat) = fun _ => 0 := funext fun a => by fin_cases a <;> rfl

/-- The capped logit over 30: `tanh (l · (1/30 as an f32))`. -/
def capped (l : EReal) : EReal := Ideal.tanh (l * Ideal.ofBits .f32 0x3D088889#32)

/-- The exponential of the capped logit, as the power of two of `t` times `30 / log 2`. -/
def expd (t : EReal) : EReal := Ideal.exp2 (t * ((30 * (Real.log 2)⁻¹ : ℝ) : EReal))

/-- Column `128 c + l` of a tile: lane `l` of its lane group `c`. -/
def laneCol (c : Fin 4) (l : Fin 128) : Fin 512 := ⟨128 * c.val + l.val, by omega⟩

/-- The tile's contribution `t` where the target, relative to the tile's first vocabulary index, is lane `l` plus `k`. -/
def hit (tg : BitVec 32) (l : Fin 128) (k : BitVec 32) (t : EReal) : EReal :=
  Scalar.select (Scalar.cmpi .eq tg (Scalar.addi (BitVec.ofNat 32 l.val) k)) t 0

/-- A lane's running sum after one tile: the four exponentials of that lane added in order. -/
def addSum (old : EReal) (t : Fin 512 → EReal) (l : Fin 128) : EReal :=
  old + expd (t (laneCol 0 l)) + expd (t (laneCol 1 l)) + expd (t (laneCol 2 l)) + expd (t (laneCol 3 l))

/-- A lane's picked value after one tile: the four capped logits of that lane, each only where the target is. -/
def addPick (old : EReal) (tg : BitVec 32) (t : Fin 512 → EReal) (l : Fin 128) : EReal :=
  old + hit tg l 0#32 (t (laneCol 0 l)) + hit tg l 128#32 (t (laneCol 1 l)) + hit tg l 256#32 (t (laneCol 2 l))
    + hit tg l 384#32 (t (laneCol 3 l))

/-- Lane group `c` of a 512 x 512 tile, at row `r` and lane `l`. -/
theorem slice_apply {α : Type} (v : S512x512.Idx → α) (off : Fin 2 → Nat) (h : S512x512.Slices off S512x128) (c : Fin 4)
    (hoff : off = ![0, 128 * c.val]) (r : Fin 512) (l : Fin 128) :
    extractStridedSlice S512x128 off v h (ix2 r l) = v (ix2 r (laneCol c l)) := by
  subst hoff
  refine extractStridedSlice_apply _ _ _ _ _ fun a => ?_
  match a with
  | ⟨0, _⟩ => show r.val = 0 + r.val; omega
  | ⟨1, _⟩ => rfl

/-- Lane group 0 of a tile. -/
theorem slice0 {α : Type} (v : S512x512.Idx → α) (h : S512x512.Slices ![0, 0] S512x128) (r : Fin 512) (l : Fin 128) :
    extractStridedSlice S512x128 ![0, 0] v h (ix2 r l) = v (ix2 r (laneCol 0 l)) := slice_apply v _ h 0 rfl r l

/-- Lane group 1 of a tile. -/
theorem slice1 {α : Type} (v : S512x512.Idx → α) (h : S512x512.Slices ![0, 128] S512x128) (r : Fin 512) (l : Fin 128) :
    extractStridedSlice S512x128 ![0, 128] v h (ix2 r l) = v (ix2 r (laneCol 1 l)) := slice_apply v _ h 1 rfl r l

/-- Lane group 2 of a tile. -/
theorem slice2 {α : Type} (v : S512x512.Idx → α) (h : S512x512.Slices ![0, 256] S512x128) (r : Fin 512) (l : Fin 128) :
    extractStridedSlice S512x128 ![0, 256] v h (ix2 r l) = v (ix2 r (laneCol 2 l)) := slice_apply v _ h 2 rfl r l

/-- Lane group 3 of a tile. -/
theorem slice3 {α : Type} (v : S512x512.Idx → α) (h : S512x512.Slices ![0, 384] S512x128) (r : Fin 512) (l : Fin 128) :
    extractStridedSlice S512x128 ![0, 384] v h (ix2 r l) = v (ix2 r (laneCol 3 l)) := slice_apply v _ h 3 rfl r l

/-- Row `o + r` of the 3072. -/
def rowAt (o : Nat) (ho : o + 512 ≤ 3072) (r : Fin 512) : Fin 3072 := ⟨o + r.val, by omega⟩

/-- The block of 512 rows of an `[3072, n]` array from row `o`, at `(r, k)`: the array at `(o + r, k)`. -/
theorem rows_apply {n : Nat} {Val : EltTy → Type} {e : EltTy} (x : (⟨2, ![3072, n]⟩ : Shape).Idx → Val e) (o : Nat) (ho : o + 512 ≤ 3072)
    (h : ∀ a, (![o, 0] : Fin 2 → Nat) a + (![512, n] : Fin 2 → Nat) a ≤ (![3072, n] : Fin 2 → Nat) a) (r : Fin 512) (k : Fin n) :
    View.ld x (Rect.unit (s := ⟨2, ![3072, n]⟩) ![o, 0] ![512, n] h) (ix2 r k) = x (ix2 (rowAt o ho r) k) :=
  View.ld_unit_apply_of _ _ _ _ _ _ fun a => by
    match a with
    | ⟨0, _⟩ => rfl
    | ⟨1, _⟩ => show k.val = 0 + k.val; omega

/-- Where a block of 512 rows from row `o` puts `(r, l)`. -/
theorem rows_emb {n : Nat} (o : Nat) (ho : o + 512 ≤ 3072)
    (h : ∀ a, (![o, 0] : Fin 2 → Nat) a + (![512, n] : Fin 2 → Nat) a ≤ (![3072, n] : Fin 2 → Nat) a) (r : Fin 512) (k : Fin n) :
    (Rect.unit (s := ⟨2, ![3072, n]⟩) ![o, 0] ![512, n] h).emb (ix2 r k) = ix2 (rowAt o ho r) k :=
  funext fun a => Fin.ext <| by
    rw [Rect.emb_apply]
    match a with
    | ⟨0, _⟩ => show o + 1 * r.val = o + r.val; omega
    | ⟨1, _⟩ => show 0 + 1 * k.val = k.val; omega

/-- The tile product with the right operand transposed, from a zero accumulator: at `(r, q)` the sum over the 6144 channels. -/
theorem product_apply {φ₁ φ₂ : FTy} (a : FVec Ideal S512x6144 φ₁) (b : FVec Ideal S512x6144 φ₂) (r q : Fin 512) :
    matmul dot_S512x6144_S512x6144_S512x512_1_1_0_0_n_n none a b (constant (F := Ideal) S512x512 .f32 0x00000000#32) (ix2 r q)
      = ∑ k : Fin 6144, a (ix2 r k) * b (ix2 q k) := by
  refine (Ideal.matmul_transposedRhs_apply (M := 512) (K := 6144) (N := 512) none a b _ r q).trans ?_
  rw [constant_apply, show Ideal.ofBits .f32 0x00000000#32 = 0 from by simp, zero_add]

end Cert.KernelIdeal.Value

end
-- ==== Proof.Permute.lean ====
/-
  The reordering of the channels: each group of 256 columns of the rows is multiplied by one 256 x 256 table. What the
  output array holds when the last point is done: at row `r` and column `256 g + q` the sum over `i` of the row's channel
  `256 g + i` times the table's `(i, q)`.
-/
module

public import proofs.«01_k».proof.Proof.Gen.KernelIdeal.Frame
public import proofs.«01_k».proof.Proof.Tile

@[expose] public section

set_option maxRecDepth 16384

noncomputable section

open Idealize.ShloMosaic Idealize.ShloMosaic.ValueIdx Idealize.ShloMosaic.TcCoe Idealize.SL.Sem
open Idealize.ShloMosaic.Pipeline (Dat Cfg Window cellOf)

namespace Cert.KernelIdeal.Value

open Cert.KernelIdeal Cert.KernelIdeal.Gen

/-- The channel `256 g + i` of the group `g` that column `k` lies in. -/
def groupCol (k : Fin 6144) (i : Fin 256) : Fin 6144 := ⟨256 * (k.val / 256) + i.val, by omega⟩

/-- The place of column `k` within its group. -/
def inGroup (k : Fin 6144) : Fin 256 := ⟨k.val % 256, Nat.mod_lt _ (by decide)⟩

/-- Rows `x` with each group of 256 columns multiplied by the table `p`. -/
def regrouped {m : Nat} (x : (⟨2, ![m, 6144]⟩ : Shape).Idx → EReal) (p : S256x256.Idx → EReal) (y : (⟨2, ![m, 6144]⟩ : Shape).Idx) : EReal :=
  ∑ i : Fin 256, x (ix2 (y 0) (groupCol (y 1) i)) * p (ix2 i (inGroup (y 1)))

/-- One stored piece, the product of one group of columns with the table, is `regrouped` at the columns it is stored to. -/
theorem group_piece (x0 : Vec Ideal S256x6144 .bf16) (x1 : Vec Ideal S256x256 .bf16) (g : Nat) (hg : g < 24)
    (h : ∀ a, (![0, 256 * g] : Fin 2 → Nat) a + S256x256.size a ≤ S256x6144.size a) (j : S256x256.Idx) :
    k0_pay2 (F := Ideal) (k0_pay28 x0 x1) (View.ld x0 (Rect.unit (s := S256x6144) ![0, 256 * g] S256x256.size h)) j
      = regrouped x0 x1 ((Rect.unit (s := S256x6144) ![0, 256 * g] S256x256.size h).emb j) := by
  obtain ⟨r, q, rfl⟩ : ∃ r q : Fin 256, j = ix2 r q := ⟨j 0, j 1, by funext a; match a with | ⟨0, _⟩ => rfl | ⟨1, _⟩ => rfl⟩
  have he : (Rect.unit (s := S256x6144) ![0, 256 * g] S256x256.size h).emb (ix2 r q) = ix2 r (⟨256 * g + q.val, by have := q.isLt; omega⟩ : Fin 6144) := by
    funext a
    apply Fin.ext
    rw [Rect.emb_apply]
    match a with
    | ⟨0, _⟩ => show 0 + 1 * r.val = r.val; omega
    | ⟨1, _⟩ => show 256 * g + 1 * q.val = 256 * g + q.val; omega
  have hl : ∀ i : Fin 256, View.ld x0 (Rect.unit (s := S256x6144) ![0, 256 * g] S256x256.size h) (ix2 r i) = x0 (ix2 r ⟨256 * g + i.val, by omega⟩) :=
    fun i => View.ld_unit_apply_of _ _ _ _ _ _ fun a => by
      match a with
      | ⟨0, _⟩ => show r.val = 0 + r.val; omega
      | ⟨1, _⟩ => rfl
  have hp : k0_pay28 (F := Ideal) x0 x1 = x1 := by
    unfold k0_pay28 k0_pay4
    dsimp only
    rw [shapeCast_self]
    exact View.ld_unit_zero (S := S256x256) hz _ _
  rw [he, hp]
  refine Eq.trans (α := EReal) (Ideal.matmul_plain_apply (M := 256) (K := 256) (N := 256) (φ₁ := .bf16) (φ₂ := .bf16) none _ _ _ r q) ?_
  rw [constant_apply, show Ideal.ofBits .f32 0x00000000#32 = 0 from by simp, zero_add]
  refine Finset.sum_congr rfl fun i _ => ?_
  rw [shapeCast_self, hl i]
  refine congr (congrArg _ (congrArg x0 ?_)) (congrArg x1 ?_)
  · refine congrArg (ix2 r) (Fin.ext ?_)
    show 256 * g + i.val = 256 * ((256 * g + q.val) / 256) + i.val
    omega
  · refine congrArg (ix2 i) (Fin.ext ?_)
    show q.val = (256 * g + q.val) % 256
    omega

/-- What one point leaves in its output block: the rows' block, regrouped. -/
theorem regrouped_block (x0 : Vec Ideal S256x6144 .bf16) (x1 : Vec Ideal S256x256 .bf16) (y : S256x6144.Idx) :
    out0_2 (F := Ideal) x0 x1 y = regrouped x0 x1 y := by
  unfold out0_2
  refine View.canon_apply_of_pieces (Val := Elt Ideal) (e := .bf16) (regrouped x0 x1) _ (View.PiecesOf.mem ?_) y (cover0_2 _ _ _ _ _ _ _ _ _ _ _ _ _ _ _ _ _ _ _ _ _ _ _ _ y)
  exact ⟨group_piece x0 x1 23 (by decide) _, group_piece x0 x1 22 (by decide) _, group_piece x0 x1 21 (by decide) _, group_piece x0 x1 20 (by decide) _,
    group_piece x0 x1 19 (by decide) _, group_piece x0 x1 18 (by decide) _, group_piece x0 x1 17 (by decide) _, group_piece x0 x1 16 (by decide) _,
    group_piece x0 x1 15 (by decide) _, group_piece x0 x1 14 (by decide) _, group_piece x0 x1 13 (by decide) _, group_piece x0 x1 12 (by decide) _,
    group_piece x0 x1 11 (by decide) _, group_piece x0 x1 10 (by decide) _, group_piece x0 x1 9 (by decide) _, group_piece x0 x1 8 (by decide) _,
    group_piece x0 x1 7 (by decide) _, group_piece x0 x1 6 (by decide) _, group_piece x0 x1 5 (by decide) _, group_piece x0 x1 4 (by decide) _,
    group_piece x0 x1 3 (by decide) _, group_piece x0 x1 2 (by decide) _, group_piece x0 x1 1 (by decide) _, group_piece x0 x1 0 (by decide) _, trivial⟩

variable (V : (c : Dev nD) → (b : Ref sig .tc) → Buf (Elt Ideal) ((c : Thread nD τ).loc b)) (c : Dev nD)

/-- The rows' block at point `t`: rows `256 t ..`. -/
theorem regroup_x (t : Fin cfg0.N) (r : Fin 256) (k : Fin 6144) (hr : 256 * t.val + r.val < 3072) :
    (iblk0 V c 0 t : Vec Ideal S256x6144 .bf16) (ix2 r k) = (V c main_v0 : S3072x6144.Idx → EReal) (ix2 ⟨256 * t.val + r.val, hr⟩ k) := by
  have hi : win0_0.index t 0 = t.val ∧ win0_0.index t 1 = 0 := by clear hr; revert t; decide +kernel
  unfold iblk0
  rw [View.read_apply]
  show V c main_v0 _ = V c main_v0 _
  congr 1
  funext a
  apply Fin.ext
  match a with
  | ⟨0, _⟩ => show win0_0.index t 0 * 256 + 1 * r.val = 256 * t.val + r.val; rw [hi.1]; omega
  | ⟨1, _⟩ => show win0_0.index t 1 * 6144 + 1 * k.val = k.val; rw [hi.2]; omega

/-- The table's block is the whole table at every point. -/
theorem regroup_p (t : Fin cfg0.N) (i q : Fin 256) :
    (iblk0 V c 1 t : Vec Ideal S256x256 .bf16) (ix2 i q) = (V c main_v16 : S256x256.Idx → EReal) (ix2 i q) := by
  have hi : win0_1.index t 0 = 0 ∧ win0_1.index t 1 = 0 := by revert t; decide +kernel
  unfold iblk0
  rw [View.read_apply]
  show V c main_v16 _ = V c main_v16 _
  congr 1
  funext a
  apply Fin.ext
  match a with
  | ⟨0, _⟩ => show win0_1.index t 0 * 256 + 1 * i.val = i.val; rw [hi.1]; omega
  | ⟨1, _⟩ => show win0_1.index t 1 * 256 + 1 * q.val = q.val; rw [hi.2]; omega

/-- What point `t` leaves in its block, at row `r` of the block and column `k`. -/
theorem regroup_point (t : Fin cfg0.N) (r : Fin 256) (k : Fin 6144) (hr : 256 * t.val + r.val < 3072) :
    out0_2 (F := Ideal) (iblk0 V c 0 t) (iblk0 V c 1 t) (ix2 r k)
      = regrouped (V c main_v0 : S3072x6144.Idx → EReal) (V c main_v16 : S256x256.Idx → EReal) (ix2 ⟨256 * t.val + r.val, hr⟩ k) := by
  refine (regrouped_block _ _ _).trans ?_
  unfold regrouped
  refine Finset.sum_congr rfl fun i _ => ?_
  exact congr (congrArg _ (regroup_x V c t r (groupCol k i) hr)) (regroup_p V c t i (inGroup k))

/-- Every point writes back its block of the regrouped rows. -/
theorem regroup_flushed (t : Fin cfg0.N) (hf : (cfg0.win 2).flush t = true) :
    (dat0 V c).flushed 2 t = ((cfg0.win 2).blk t).view.read (Elt Ideal)
      ((regrouped (V c main_v0 : S3072x6144.Idx → EReal) (V c main_v16 : S256x256.Idx → EReal) : S3072x6144.Idx → EReal) : Buf (Elt Ideal) ((c : Thread nD τ).loc main_v17)) := by
  have hi : win0_2.index t 0 = t.val ∧ win0_2.index t 1 = 0 := by clear hf; revert t; decide +kernel
  have ht : t.val < 12 := lt_of_lt_of_eq t.isLt N_0
  show (cfg0.win 2).cut (grid0.coords t) ((dat0 V c).after 2 t) = _
  rw [after0_2]
  have hp := fun r k => regroup_point V c t r k (by omega)
  generalize out0_2 (F := Ideal) (iblk0 V c 0 t) (iblk0 V c 1 t) = B at hp ⊢
  generalize (regrouped (V c main_v0 : S3072x6144.Idx → EReal) (V c main_v16 : S256x256.Idx → EReal) : S3072x6144.Idx → EReal) = G at hp ⊢
  refine funext fun (j : S256x6144.Idx) => ?_
  obtain ⟨r, k, rfl⟩ : ∃ (r : Fin 256) (k : Fin 6144), j = ix2 r k := ⟨j 0, j 1, by funext a; match a with | ⟨0, _⟩ => rfl | ⟨1, _⟩ => rfl⟩
  rw [View.read_apply]
  refine (hp r k).trans (congrArg G ?_)
  funext a
  apply Fin.ext
  match a with
  | ⟨0, _⟩ => show 256 * t.val + r.val = win0_2.index t 0 * 256 + 1 * r.val; rw [hi.1]; omega
  | ⟨1, _⟩ => show k.val = win0_2.index t 1 * 6144 + 1 * k.val; rw [hi.2]; omega

/-- The point whose block holds row `r`. -/
def regroupPoint (r : Nat) (hr : r < 3072) : Fin cfg0.N := ⟨r / 256, by rw [show cfg0.N = 12 from N_0]; omega⟩

/-- So the output array ends holding the regrouped rows. -/
theorem regroup_final : (dat0 V c).arrAt 2 cfg0.N
    = ((regrouped (V c main_v0 : S3072x6144.Idx → EReal) (V c main_v16 : S256x256.Idx → EReal) : S3072x6144.Idx → EReal) : Buf (Elt Ideal) ((c : Thread nD τ).loc main_v17)) :=
  (dat0 V c).arrAt_eq_of_cover 2 _ (regroup_flushed V c) fun i =>
    ⟨regroupPoint (i 0).val (i 0).isLt, flush0_2 _, by
      generalize hp : regroupPoint (i 0).val (i 0).isLt = t
      have ht : t.val = (i 0).val / 256 := congrArg Fin.val hp.symm
      have hi : win0_2.index t 0 * win0_2.size 0 = 256 * t.val ∧ win0_2.index t 1 * win0_2.size 1 = 0
          ∧ win0_2.xsize (grid0.coords t) 0 = 256 ∧ win0_2.xsize (grid0.coords t) 1 = 6144 := by clear ht hp; revert t; decide +kernel
      show i ∈ ((View.whole main_v17).slice (win0_2.rect t)).set
      rw [View.set_slice_whole, Rect.mem_set_unit]
      intro a
      have h0 : (i 0 : Nat) < 3072 := (i 0).isLt
      have h1 : (i 1 : Nat) < 6144 := (i 1).isLt
      match a with
      | ⟨0, _⟩ => show win0_2.index t 0 * win0_2.size 0 ≤ (i 0 : Nat) ∧ (i 0 : Nat) < win0_2.index t 0 * win0_2.size 0 + win0_2.xsize (grid0.coords t) 0
                  rw [hi.1, hi.2.2.1]; omega
      | ⟨1, _⟩ => show win0_2.index t 1 * win0_2.size 1 ≤ (i 1 : Nat) ∧ (i 1 : Nat) < win0_2.index t 1 * win0_2.size 1 + win0_2.xsize (grid0.coords t) 1
                  rw [hi.2.1, hi.2.2.2]; omega⟩

end Cert.KernelIdeal.Value

end
-- ==== Proof.KernelHost.lean ====
/-
  What the kernel's host operations leave in the arrays its four calls read: the rows as one array, the reordering table,
  the targets as a column and along the lanes, the head's scales as a row.
-/
module

public import proofs.«01_k».proof.Proof.Gen.KernelIdeal.Frame
public import proofs.«01_k».proof.Proof.Tile
public import Idealize.ShloMosaic.Lib.StableHlo.Run

@[expose] public section

set_option maxRecDepth 16384

noncomputable section

open Idealize.ShloMosaic Idealize.ShloMosaic.ValueIdx Idealize.ShloMosaic.TcCoe Idealize.SL.Sem Idealize.ShloMosaic.StableHlo

namespace Cert.KernelIdeal.Value

open Cert.KernelIdeal Cert.KernelIdeal.Gen

/-- A scalar along the 256 places. -/
def spread {α : Type} (d : S_.Idx → α) : S256.Idx → α := broadcastInDim S256 ![] bcast_S_S256 d

/-- The remainder as the host computes it, with the sign of the divisor. -/
def hostRem (x : S256.Idx → BitVec 32) (d : S_.Idx → BitVec 32) : S256.Idx → BitVec 32 :=
  let d' : S_.Idx → BitVec 32 := select (cmpi .eq d (constantI S_ 32 0#32)) (constantI S_ 32 1#32) d
  let r : S256.Idx → BitVec 32 := Host.remsi x (spread d')
  select (andi (cmpi .ne (cmpi .slt r (spread (constantI S_ 32 0#32))) (spread (cmpi .slt d' (constantI S_ 32 0#32))))
    (cmpi .ne r (spread (constantI S_ 32 0#32)))) (addi r (spread d')) r

/-- The quotient as the host computes it, rounded down. -/
def hostDiv (x : S256.Idx → BitVec 32) (d : S_.Idx → BitVec 32) : S256.Idx → BitVec 32 :=
  let q : S256.Idx → BitVec 32 := Host.divsi x (spread d)
  select (andi (cmpi .ne (signi x) (spread (signi d))) (cmpi .ne (Host.remsi x (spread d)) (spread (constantI S_ 32 0#32))))
    (subi q (spread (constantI S_ 32 1#32))) q

/-- The place each of a group's 256 channels is sent to. -/
def place : S256.Idx → BitVec 32 :=
  let i : S256.Idx → BitVec 32 := iotaInDim S256 32 0
  let two : S_.Idx → BitVec 32 := constantI S_ 32 2#32
  select (cmpi .eq (hostRem i two) (spread (constantI S_ 32 0#32))) (hostDiv i two) (addi (spread (constantI S_ 32 128#32)) (hostDiv i two))

/-- The reordering table. -/
def table : S256x256.Idx → EReal :=
  uitofp (F := Ideal) .bf16 (cmpi .eq (broadcastInDim S256x256 ![0, 1] bcast_S256x1_S256x256_0_1 (broadcastInDim S256x1 ![0] bcast_S256_S256x1_0 place))
    (broadcastInDim S256x256 ![0, 1] bcast_S1x256_S256x256_0_1 (broadcastInDim S1x256 ![1] bcast_S256_S1x256_1 (iotaInDim S256 32 0))))

variable (m : (ℓ : Loc nD τ sig) → Buf (Elt Ideal) ℓ) (ρ : Dev nD → PrngReg) (c : Dev nD)

/-- The remainders. -/
theorem rem_eq (W : Valuation τ sig (Elt Ideal)) : StableHlo.after (hostOps0_1 (F := Ideal)) W (Proc.devRef .tc main_v2)
    = hostRem (W (Proc.devRef .tc main_v1)) (W (Proc.devRef .tc main_c)) := by
  simp only [hostOps0_1, TRef.binary, TRef.nullary, TRef.reshape, TRef.ternary, TRef.unary, TRef.toBuf, TRef.ofBuf, cast_eq]
  after_results_simp <;> rfl

/-- The quotients, taken first. -/
theorem div1_eq (W : Valuation τ sig (Elt Ideal)) : StableHlo.after (hostOps0_3 (F := Ideal)) W (Proc.devRef .tc main_v5)
    = hostDiv (W (Proc.devRef .tc main_v1)) (W (Proc.devRef .tc main_c_1)) := by
  simp only [hostOps0_3, TRef.binary, TRef.nullary, TRef.reshape, TRef.ternary, TRef.unary, TRef.toBuf, TRef.ofBuf, cast_eq]
  after_results_simp <;> rfl

/-- The quotients, taken again. -/
theorem div2_eq (W : Valuation τ sig (Elt Ideal)) : StableHlo.after (hostOps0_5 (F := Ideal)) W (Proc.devRef .tc main_v6)
    = hostDiv (W (Proc.devRef .tc main_v1)) (W (Proc.devRef .tc main_c_2)) := by
  simp only [hostOps0_5, TRef.binary, TRef.nullary, TRef.reshape, TRef.ternary, TRef.unary, TRef.toBuf, TRef.ofBuf, cast_eq]
  after_results_simp <;> rfl

/-- The counter's array. -/
theorem W1_v1 : W1 m ρ c (Proc.devRef .tc main_v1) = (iotaInDim S256 32 0 : S256.Idx → BitVec 32) := by
  unfold W1
  after_results_simp <;> rfl

/-- The divisor of the remainders. -/
theorem W1_c : W1 m ρ c (Proc.devRef .tc main_c) = (constantI S_ 32 2#32 : S_.Idx → BitVec 32) := by
  unfold W1
  after_results_simp <;> rfl

/-- The rows as one array, when the reordering starts. -/
theorem W9_v0 : W9 m ρ c (Proc.devRef .tc main_v0) = (shapeCast S3072x6144 (m ((c : Thread nD τ).loc main_arg0)) shapeCasts_S8x384x6144_S3072x6144 : S3072x6144.Idx → EReal) := by
  rw [W9_of m ρ c main_v0 (by decide), W8_of m ρ c main_v0 (by decide), W7_of m ρ c main_v0 (by decide), W6_of m ρ c main_v0 (by decide),
    W5_of m ρ c main_v0 (by decide), W4_of m ρ c main_v0 (by decide), W3_of m ρ c main_v0 (by decide), W2_of m ρ c main_v0 (by decide)]
  unfold W1
  after_results_simp <;> rfl

/-- The places, when the table is made. -/
theorem W8_v9 : W8 m ρ c (Proc.devRef .tc main_v9) = place := by
  have e1 : W3 m ρ c (Proc.devRef .tc main_v1) = (iotaInDim S256 32 0 : S256.Idx → BitVec 32) := by
    rw [W3_of m ρ c main_v1 (by decide), W2_of m ρ c main_v1 (by decide), W1_v1]
  have e2 : W3 m ρ c (Proc.devRef .tc main_v4) = (cmpi .eq (hostRem (iotaInDim S256 32 0) (constantI S_ 32 2#32)) (spread (constantI S_ 32 0#32)) : S256.Idx → BitVec 1) := by
    rw [← W1_v1 m ρ c, ← W1_c m ρ c, ← rem_eq (W1 m ρ c)]
    unfold W3
    after_results_simp <;> rfl
  have e3 : W3 m ρ c (Proc.devRef .tc main_c_1) = (constantI S_ 32 2#32 : S_.Idx → BitVec 32) := by
    unfold W3
    after_results_simp <;> rfl
  have e4 : W5 m ρ c (Proc.devRef .tc main_v5) = hostDiv (iotaInDim S256 32 0) (constantI S_ 32 2#32) := by
    rw [W5_of m ρ c main_v5 (by decide), ← e1, ← e3]
    exact div1_eq (W3 m ρ c)
  have e5 : W5 m ρ c (Proc.devRef .tc main_v1) = (iotaInDim S256 32 0 : S256.Idx → BitVec 32) := by
    rw [W5_of m ρ c main_v1 (by decide), W4_of m ρ c main_v1 (by decide), e1]
  have e6 : W5 m ρ c (Proc.devRef .tc main_c_2) = (constantI S_ 32 2#32 : S_.Idx → BitVec 32) := by
    unfold W5
    after_results_simp <;> rfl
  have e7 : W6 m ρ c (Proc.devRef .tc main_v6) = hostDiv (iotaInDim S256 32 0) (constantI S_ 32 2#32) := by
    rw [← e5, ← e6]
    exact div2_eq (W5 m ρ c)
  have e8 : W7 m ρ c (Proc.devRef .tc main_v8) = (addi (spread (constantI S_ 32 128#32)) (hostDiv (iotaInDim S256 32 0) (constantI S_ 32 2#32)) : S256.Idx → BitVec 32) := by
    rw [← e7]
    unfold W7
    after_results_simp <;> rfl
  have e9 : W7 m ρ c (Proc.devRef .tc main_v5) = hostDiv (iotaInDim S256 32 0) (constantI S_ 32 2#32) := by
    rw [W7_of m ρ c main_v5 (by decide), W6_of m ρ c main_v5 (by decide), e4]
  have e10 : W7 m ρ c (Proc.devRef .tc main_v4) = (cmpi .eq (hostRem (iotaInDim S256 32 0) (constantI S_ 32 2#32)) (spread (constantI S_ 32 0#32)) : S256.Idx → BitVec 1) := by
    rw [W7_of m ρ c main_v4 (by decide), W6_of m ρ c main_v4 (by decide), W5_of m ρ c main_v4 (by decide), W4_of m ρ c main_v4 (by decide), e2]
  show _ = (select (cmpi .eq (hostRem (iotaInDim S256 32 0) (constantI S_ 32 2#32)) (spread (constantI S_ 32 0#32))) (hostDiv (iotaInDim S256 32 0) (constantI S_ 32 2#32))
    (addi (spread (constantI S_ 32 128#32)) (hostDiv (iotaInDim S256 32 0) (constantI S_ 32 2#32))) : S256.Idx → BitVec 32)
  rw [← e8, ← e10]
  conv_rhs => rw [← e9]
  unfold W8
  simp only [hostOps0_7, TRef.binary, TRef.nullary, TRef.reshape, TRef.ternary, TRef.unary, TRef.toBuf, TRef.ofBuf, cast_eq]
  after_results_simp <;> rfl

/-- The table, when the reordering starts. -/
theorem W9_v16 : W9 m ρ c (Proc.devRef .tc main_v16) = table := by
  unfold table
  rw [← W8_v9 m ρ c]
  unfold W9
  after_results_simp <;> rfl

/-- The targets along the lanes, when the tiers start. -/
theorem W11_v19 : W11 m ρ c (Proc.devRef .tc main_v19)
    = (broadcastInDim S3072x128 ![0, 1] bcast_S3072x1_S3072x128_0_1 (shapeCast S3072x1 (m ((c : Thread nD τ).loc main_arg5)) shapeCasts_S8x384_S3072x1) : S3072x128.Idx → BitVec 32) := by
  rw [← W10_args m ρ c main_arg5 (by decide)]
  unfold W11
  after_results_simp <;> rfl

/-- The head's scales as a row, when the tiers start. -/
theorem W11_v20 : W11 m ρ c (Proc.devRef .tc main_v20)
    = (shapeCast S1x5120 (m ((c : Thread nD τ).loc main_arg2)) shapeCasts_S5120_S1x5120 : S1x5120.Idx → EReal) := by
  rw [← W10_args m ρ c main_arg2 (by decide)]
  unfold W11
  after_results_simp <;> rfl

/-- The targets as a column, when the last call starts. -/
theorem W14_v23 : W14 m ρ c (Proc.devRef .tc main_v23)
    = (shapeCast S3072x1 (m ((c : Thread nD τ).loc main_arg5)) shapeCasts_S8x384_S3072x1 : S3072x1.Idx → BitVec 32) := by
  rw [← W13_args m ρ c main_arg5 (by decide)]
  unfold W14
  after_results_simp <;> rfl

/-- The four results from the last call's four columns. -/
theorem W16_results : W16 m ρ c (Proc.devRef .tc main_v25) = (shapeCast S8x384 (W15 m ρ c (Proc.devRef .tc main_v24_0)) shapeCasts_S3072x1_S8x384 : S8x384.Idx → EReal)
    ∧ W16 m ρ c (Proc.devRef .tc main_v26) = (shapeCast S8x384 (W15 m ρ c (Proc.devRef .tc main_v24_1)) shapeCasts_S3072x1_S8x384 : S8x384.Idx → EReal)
    ∧ W16 m ρ c (Proc.devRef .tc main_v27) = (shapeCast S8x384 (W15 m ρ c (Proc.devRef .tc main_v24_2)) shapeCasts_S3072x1_S8x384 : S8x384.Idx → EReal)
    ∧ W16 m ρ c (Proc.devRef .tc main_v28) = (shapeCast S8x384 (W15 m ρ c (Proc.devRef .tc main_v24_3)) shapeCasts_S3072x1_S8x384 : S8x384.Idx → EReal) := by
  refine ⟨?_, ?_, ?_, ?_⟩ <;> unfold W16 <;> after_results_simp <;> rfl

end Cert.KernelIdeal.Value

end
-- ==== Proof.Nibble.lean ====
/-
  The packed weights of the tail. A byte holds two signed 4-bit numbers; the kernel unpacks four bytes at a time, reading
  four rows of a column as one 32-bit word, masking (and for the low number first shifting) the word, and reading it back
  as bytes. Byte by byte that is `b <<< 4` for the low number and `b &&& 0xF0` for the high one, each then 16 times the
  4-bit number.
-/
module

public import proofs.«01_k».proof.Proof.Tile
public import Idealize.ShloMosaic.Lib.BitcastFour

@[expose] public section

set_option maxRecDepth 16384

noncomputable section

open Idealize.ShloMosaic Idealize.ShloMosaic.ValueIdx

namespace Cert.KernelIdeal.Value

open Cert.KernelIdeal Cert.KernelIdeal.Gen

/-- Bit `n` of the word mask `0xF0F0F0F0`: the upper half of every byte. -/
theorem mask_bit (n : Nat) (hn : n < 32) : (4042322160#32).getLsbD n = decide (4 ≤ n % 8) := by
  interval_cases n <;> rfl

/-- Bit `n` of the byte mask `0xF0`. -/
theorem mask8_bit (n : Nat) (hn : n < 8) : (240#8).getLsbD n = decide (4 ≤ n) := by
  interval_cases n <;> rfl

/-- Words read back as bytes: bit `i` of row `r` is bit `8 (r % 4) + i` of word row `r / 4`. -/
theorem bytes_bit (y : S128x128.Idx → BitVec 32) (h : S128x128.Bitcasts 32 S512x128 8) (r : Fin 512) (l : Fin 128) (i : Nat) (hi : i < 8) :
    (bitcast S512x128 8 y h (ix2 r l)).getLsbD i = (y (ix2 (⟨r.val / 4, by omega⟩ : Fin 128) l)).getLsbD (8 * (r.val % 4) + i) := by
  rw [bitcast_getLsbD y h _ i hi (by decide)]
  have e1 : (S512x128.row (ix2 r l) * 8 + i) / 32 = r.val / 4 := by
    show (r.val * 8 + i) / 32 = _; omega
  have e2 : (S512x128.row (ix2 r l) * 8 + i) % 32 = 8 * (r.val % 4) + i := by
    show (r.val * 8 + i) % 32 = _; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The high numbers: four bytes at a time, masked, are the bytes masked. -/
theorem high_bytes (v : S512x128.Idx → BitVec 8) (h : S512x128.Bitcasts 8 S128x128 32) (h' : S128x128.Bitcasts 32 S512x128 8)
    (r : Fin 512) (l : Fin 128) :
    bitcast S512x128 8 (andi (bitcast S128x128 32 v h) (broadcast S128x128 4042322160#32)) h' (ix2 r l) = v (ix2 r l) &&& 240#8 := by
  apply BitVec.eq_of_getLsbD_eq
  intro i hi
  rw [bytes_bit _ h' r l i hi]
  show ((bitcast S128x128 32 v h (ix2 _ l)) &&& 4042322160#32).getLsbD _ = _
  rw [BitVec.getLsbD_and, BitVec.getLsbD_and, mask_bit _ (by omega), mask8_bit _ hi,
    bitcast_8_32_getLsbD_ix2 v h _ l _ (by omega) r (by show r.val = 4 * (r.val / 4) + _; omega),
    show (8 * (r.val % 4) + i) % 8 = i by omega]

/-- The low numbers: four bytes at a time, shifted and masked, are the bytes shifted. -/
theorem low_bytes (v : S512x128.Idx → BitVec 8) (h : S512x128.Bitcasts 8 S128x128 32) (h' : S128x128.Bitcasts 32 S512x128 8)
    (r : Fin 512) (l : Fin 128) :
    bitcast S512x128 8 (andi (shli (bitcast S128x128 32 v h) (broadcast S128x128 4#32)) (broadcast S128x128 4042322160#32)) h' (ix2 r l)
      = v (ix2 r l) <<< 4 := by
  apply BitVec.eq_of_getLsbD_eq
  intro i hi
  rw [bytes_bit _ h' r l i hi]
  show ((IntOp.shli .vector (bitcast S128x128 32 v h (ix2 _ l)) 4#32) &&& 4042322160#32).getLsbD _ = _
  have hs : ∀ w : BitVec 32, IntOp.shli .vector w 4#32 = w <<< 4 := fun w => by simp [IntOp.shli]
  rw [hs, BitVec.getLsbD_and, mask_bit _ (by omega), BitVec.getLsbD_shiftLeft, BitVec.getLsbD_shiftLeft,
    show (8 * (r.val % 4) + i) % 8 = i by omega]
  by_cases h4 : 4 ≤ i
  · rw [bitcast_8_32_getLsbD_ix2 v h _ l _ (by omega) r (by show r.val = 4 * (r.val / 4) + _; omega),
      show (8 * (r.val % 4) + i - 4) % 8 = i - 4 by omega]
    simp [h4, hi, show ¬ i < 4 by omega, show ¬ (8 * (r.val % 4) + i < 4) by omega, show 8 * (r.val % 4) + i < 32 by omega]
  · simp [h4, show i < 4 by omega]

/-- The low 4-bit number of a byte, as the kernel makes it: 16 times it, times 1/16. -/
def lowNum (b : BitVec 8) : EReal := (((b <<< 4).toInt : ℝ) : EReal) * Ideal.ofBits .bf16 0x3D80#16

/-- The high 4-bit number of a byte, as the kernel makes it. -/
def highNum (b : BitVec 8) : EReal := (((b &&& 240#8).toInt : ℝ) : EReal) * Ideal.ofBits .bf16 0x3D80#16

end Cert.KernelIdeal.Value

end
-- ==== Proof.TailWeights.lean ====
/-
  The tail's weights, unpacked. Before the products of a grid point the body writes the tile's 512 x 6144 weights into a
  scratch buffer: 24 groups of 256 columns, each the low numbers of 128 bytes and then their high numbers, times the
  scale of the byte's group of 64. What the scratch then holds is one function of row and column (`tailW`).
-/
module

public import proofs.«01_k».proof.Proof.Nibble

@[expose] public section

set_option maxRecDepth 16384

noncomputable section

open Idealize.ShloMosaic Idealize.ShloMosaic.ValueIdx

namespace Cert.KernelIdeal.Value

open Cert.KernelIdeal Cert.KernelIdeal.Gen

/-- The byte column behind unpacked column `k`: byte `128 (k / 256) + k % 128`. -/
def byteCol (k : Fin 6144) : Fin 3072 := ⟨128 * (k.val / 256) + k.val % 128, by omega⟩

/-- The scale column of unpacked column `k`: two scales for every 256 columns, one for each half of the 128 bytes. -/
def scaleCol (k : Fin 6144) : Fin 48 := ⟨2 * (k.val / 256) + k.val % 128 / 64, by omega⟩

/-- The unpacked weight at row `r` and column `k`: the low number of its byte in the first 128 columns of every 256, the
    high one in the others, times the scale. -/
def tailWAt (x1 : S512x3072.Idx → BitVec 8) (x2 : S512x48.Idx → EReal) (r : Fin 512) (k : Fin 6144) : EReal :=
  (if k.val % 256 < 128 then lowNum (x1 (ix2 r (byteCol k))) else highNum (x1 (ix2 r (byteCol k)))) * x2 (ix2 r (scaleCol k))

/-- The unpacked weights of a tile. -/
def tailW (x1 : S512x3072.Idx → BitVec 8) (x2 : S512x48.Idx → EReal) : S512x6144.Idx → EReal := fun y => tailWAt x1 x2 (y 0) (y 1)

/-- Where a block of 128 columns from column `o` puts `(r, l)`. -/
theorem cols_emb {n w : Nat} (o : Nat)
    (h : ∀ a, (![0, o] : Fin 2 → Nat) a + (![512, w] : Fin 2 → Nat) a ≤ (![512, n] : Fin 2 → Nat) a) (r : Fin 512) (l : Fin w) (k : Fin n)
    (hk : k.val = o + l.val) :
    (Rect.unit (s := ⟨2, ![512, n]⟩) ![0, o] ![512, w] h).emb (ix2 r l) = ix2 r k :=
  funext fun a => Fin.ext <| by
    rw [Rect.emb_apply]
    match a with
    | ⟨0, _⟩ => show 0 + 1 * r.val = r.val; omega
    | ⟨1, _⟩ => show o + 1 * l.val = k.val; omega

/-- A block of columns from column `o`, at `(r, l)`: the array at column `o + l`. -/
theorem cols_apply {n w : Nat} {Val : EltTy → Type} {e : EltTy} (x : (⟨2, ![512, n]⟩ : Shape).Idx → Val e) (o : Nat)
    (h : ∀ a, (![0, o] : Fin 2 → Nat) a + (![512, w] : Fin 2 → Nat) a ≤ (![512, n] : Fin 2 → Nat) a) (r : Fin 512) (l : Fin w) (k : Fin n)
    (hk : k.val = o + l.val) :
    View.ld x (Rect.unit (s := ⟨2, ![512, n]⟩) ![0, o] ![512, w] h) (ix2 r l) = x (ix2 r k) :=
  View.ld_unit_apply_of _ _ _ _ _ _ fun a => by
    match a with
    | ⟨0, _⟩ => show r.val = 0 + r.val; omega
    | ⟨1, _⟩ => exact hk

/-- Two columns of scales, chosen by the lane: lanes below 64 take the first. -/
theorem pick_scale (a b : S512x1.Idx → EReal) (hi : S512x128.Iotas .tc 32 [1]) (hc hc' : S512x1.ShapeCasts S512x1)
    (hb hb' : S512x1.Broadcasts S512x128) (r : Fin 512) (l : Fin 128) :
    select (cmpi .slt (iota Kind.tc S512x128 32 [1] hi) (broadcast S512x128 64#32)) (broadcastTo S512x128 (shapeCast S512x1 a hc) hb)
        (broadcastTo S512x128 (shapeCast S512x1 b hc') hb') (ix2 r l)
      = if l.val < 64 then a (ix2 r 0) else b (ix2 r 0) := by
  rw [select_apply, shapeCast_self, shapeCast_self]
  rw [broadcastTo_apply a _ (ix2 r l) (ix2 r 0) (fun a => by match a with | ⟨0, _⟩ => rfl | ⟨1, _⟩ => rfl),
    broadcastTo_apply b _ (ix2 r l) (ix2 r 0) (fun a => by match a with | ⟨0, _⟩ => rfl | ⟨1, _⟩ => rfl)]
  have hlt : cmpi .slt (iota Kind.tc S512x128 32 [1] hi) (broadcast S512x128 64#32) (ix2 r l) = if l.val < 64 then 1#1 else 0#1 := by
    have e : iota Kind.tc S512x128 32 [1] hi (ix2 r l) = BitVec.ofNat 32 l.val := by simp [iota]
    unfold cmpi
    rw [e]
    clear e
    show Scalar.cmpi .slt (BitVec.ofNat 32 l.val) 64#32 = _
    revert l; decide +kernel
  rw [hlt]
  split <;> rfl

/-- 128 columns of low numbers, from byte column `a`, lie in the scratch. -/
theorem low_in {a : Nat} (h : a + 128 ≤ 3072) (d : Fin 2) : (![0, 2 * a] : Fin 2 → Nat) d + S512x128.size d ≤ S512x6144.size d := by
  match d with
  | ⟨0, _⟩ => show 0 + 512 ≤ 512; omega
  | ⟨1, _⟩ => show 2 * a + 128 ≤ 6144; omega

/-- 128 columns of high numbers, from byte column `a`, lie in the scratch. -/
theorem high_in {a : Nat} (h : a + 128 ≤ 3072) (ha : a % 128 = 0) (d : Fin 2) :
    (![0, 2 * a + 128] : Fin 2 → Nat) d + S512x128.size d ≤ S512x6144.size d := by
  match d with
  | ⟨0, _⟩ => show 0 + 512 ≤ 512; omega
  | ⟨1, _⟩ => show 2 * a + 128 + 128 ≤ 6144; omega

section Blocks

variable (x1 : Vec Ideal S512x3072 .i8) (x2 : Vec Ideal S512x48 .bf16) {a s t : Nat}
  (ina : ∀ d, (![0, a] : Fin 2 → Nat) d + S512x128.size d ≤ S512x3072.size d)
  (ins : ∀ d, (![0, s] : Fin 2 → Nat) d + S512x1.size d ≤ S512x48.size d)
  (int : ∀ d, (![0, t] : Fin 2 → Nat) d + S512x1.size d ≤ S512x48.size d)
  (h₁ : S512x128.Bitcasts 8 S128x128 32) (h₂ : S128x128.Bitcasts 32 S512x128 8) (hi : S512x128.Iotas .tc 32 [1])
  (hc hc' : S512x1.ShapeCasts S512x1) (hb hb' : S512x1.Broadcasts S512x128) (hs : S512x128.ShapeCasts S512x128)

/-- One block of low numbers is the unpacked weights there. -/
theorem low_block (h : a + 128 ≤ 3072) (ha : a % 128 = 0) (hsa : s = a / 64) (hta : t = a / 64 + 1) (x : S512x128.Idx) :
    shapeCast S512x128
        (mulf (F := Ideal) (φ := .bf16)
          (mulf (sitofp FTy.bf16
              (bitcast S512x128 8 (andi (shli (bitcast S128x128 32 (View.ld x1 (Rect.unit (s := S512x3072) ![0, a] S512x128.size ina)) h₁)
                (broadcast S128x128 4#32)) (broadcast S128x128 4042322160#32)) h₂))
            (broadcast S512x128 (FloatOps.ofBits (F := Ideal) FTy.bf16 15744#16)))
          (select (cmpi .slt (iota Kind.tc S512x128 32 [1] hi) (broadcast S512x128 64#32))
            (broadcastTo S512x128 (shapeCast S512x1 (View.ld x2 (Rect.unit (s := S512x48) ![0, s] S512x1.size ins)) hc) hb)
            (broadcastTo S512x128 (shapeCast S512x1 (View.ld x2 (Rect.unit (s := S512x48) ![0, t] S512x1.size int)) hc') hb'))) hs x
      = tailW x1 x2 ((Rect.unit (s := S512x6144) ![0, 2 * a] S512x128.size (low_in h)).emb x) := by
  obtain ⟨r, l, rfl⟩ : ∃ r : Fin 512, ∃ l : Fin 128, x = ix2 r l := ⟨_, _, eq_ix2 x⟩
  have hk : 2 * a + l.val < 6144 := by omega
  refine Eq.trans ?_ (congrArg (tailW x1 x2) (cols_emb (2 * a) (low_in h) r l ⟨2 * a + l.val, hk⟩ rfl).symm)
  have hv : View.ld x1 (Rect.unit (s := S512x3072) ![0, a] S512x128.size ina) (ix2 r l) = x1 (ix2 r (byteCol ⟨2 * a + l.val, hk⟩)) :=
    cols_apply x1 a ina r l _ (by show 128 * ((2 * a + l.val) / 256) + (2 * a + l.val) % 128 = _; omega)
  have hsc : (if l.val < 64 then View.ld x2 (Rect.unit (s := S512x48) ![0, s] S512x1.size ins) (ix2 r 0)
      else View.ld x2 (Rect.unit (s := S512x48) ![0, t] S512x1.size int) (ix2 r 0)) = x2 (ix2 r (scaleCol ⟨2 * a + l.val, hk⟩)) := by
    split
    · exact cols_apply x2 s ins r 0 _ (by show 2 * ((2 * a + l.val) / 256) + (2 * a + l.val) % 128 / 64 = s + 0; omega)
    · exact cols_apply x2 t int r 0 _ (by show 2 * ((2 * a + l.val) / 256) + (2 * a + l.val) % 128 / 64 = t + 0; omega)
  generalize View.ld x1 (Rect.unit (s := S512x3072) ![0, a] S512x128.size ina) = v at hv ⊢
  generalize View.ld x2 (Rect.unit (s := S512x48) ![0, s] S512x1.size ins) = sa at hsc ⊢
  generalize View.ld x2 (Rect.unit (s := S512x48) ![0, t] S512x1.size int) = sb at hsc ⊢
  rw [shapeCast_self, mulf_apply, mulf_apply, pick_scale, hsc]
  show (((bitcast S512x128 8 _ h₂ (ix2 r l)).toInt : ℝ) : EReal) * _ * _ = tailWAt x1 x2 r ⟨2 * a + l.val, hk⟩
  rw [low_bytes, hv]
  unfold tailWAt
  rw [if_pos (show (2 * a + l.val) % 256 < 128 by omega)]
  rfl

/-- One block of high numbers is the unpacked weights there. -/
theorem high_block (h : a + 128 ≤ 3072) (ha : a % 128 = 0) (hsa : s = a / 64) (hta : t = a / 64 + 1) (x : S512x128.Idx) :
    shapeCast S512x128
        (mulf (F := Ideal) (φ := .bf16)
          (mulf (sitofp FTy.bf16
              (bitcast S512x128 8 (andi (bitcast S128x128 32 (View.ld x1 (Rect.unit (s := S512x3072) ![0, a] S512x128.size ina)) h₁)
                (broadcast S128x128 4042322160#32)) h₂))
            (broadcast S512x128 (FloatOps.ofBits (F := Ideal) FTy.bf16 15744#16)))
          (select (cmpi .slt (iota Kind.tc S512x128 32 [1] hi) (broadcast S512x128 64#32))
            (broadcastTo S512x128 (shapeCast S512x1 (View.ld x2 (Rect.unit (s := S512x48) ![0, s] S512x1.size ins)) hc) hb)
            (broadcastTo S512x128 (shapeCast S512x1 (View.ld x2 (Rect.unit (s := S512x48) ![0, t] S512x1.size int)) hc') hb'))) hs x
      = tailW x1 x2 ((Rect.unit (s := S512x6144) ![0, 2 * a + 128] S512x128.size (high_in h ha)).emb x) := by
  obtain ⟨r, l, rfl⟩ : ∃ r : Fin 512, ∃ l : Fin 128, x = ix2 r l := ⟨_, _, eq_ix2 x⟩
  have hk : 2 * a + 128 + l.val < 6144 := by omega
  refine Eq.trans ?_ (congrArg (tailW x1 x2) (cols_emb (2 * a + 128) (high_in h ha) r l ⟨2 * a + 128 + l.val, hk⟩ rfl).symm)
  have hv : View.ld x1 (Rect.unit (s := S512x3072) ![0, a] S512x128.size ina) (ix2 r l) = x1 (ix2 r (byteCol ⟨2 * a + 128 + l.val, hk⟩)) :=
    cols_apply x1 a ina r l _ (by show 128 * ((2 * a + 128 + l.val) / 256) + (2 * a + 128 + l.val) % 128 = _; omega)
  have hsc : (if l.val < 64 then View.ld x2 (Rect.unit (s := S512x48) ![0, s] S512x1.size ins) (ix2 r 0)
      else View.ld x2 (Rect.unit (s := S512x48) ![0, t] S512x1.size int) (ix2 r 0)) = x2 (ix2 r (scaleCol ⟨2 * a + 128 + l.val, hk⟩)) := by
    split
    · exact cols_apply x2 s ins r 0 _ (by show 2 * ((2 * a + 128 + l.val) / 256) + (2 * a + 128 + l.val) % 128 / 64 = s + 0; omega)
    · exact cols_apply x2 t int r 0 _ (by show 2 * ((2 * a + 128 + l.val) / 256) + (2 * a + 128 + l.val) % 128 / 64 = t + 0; omega)
  generalize View.ld x1 (Rect.unit (s := S512x3072) ![0, a] S512x128.size ina) = v at hv ⊢
  generalize View.ld x2 (Rect.unit (s := S512x48) ![0, s] S512x1.size ins) = sa at hsc ⊢
  generalize View.ld x2 (Rect.unit (s := S512x48) ![0, t] S512x1.size int) = sb at hsc ⊢
  rw [shapeCast_self, mulf_apply, mulf_apply, pick_scale, hsc]
  show (((bitcast S512x128 8 _ h₂ (ix2 r l)).toInt : ℝ) : EReal) * _ * _ = tailWAt x1 x2 r ⟨2 * a + 128 + l.val, hk⟩
  rw [high_bytes, hv]
  unfold tailWAt
  rw [if_neg (show ¬ (2 * a + 128 + l.val) % 256 < 128 by omega)]
  rfl

end Blocks

/-- Stores that are blocks of the unpacked weights and cover the scratch, read back whole: the unpacked weights. -/
theorem scratch_eq {sp : Space} (v : View sig .tc sp S512x6144 .bf16) (x1 : Vec Ideal S512x3072 .i8) (x2 : Vec Ideal S512x48 .bf16)
    (L : List (View.Piece (Elt Ideal) S512x6144 .bf16)) (inb : ∀ d, (![0, 0] : Fin 2 → Nat) d + S512x6144.size d ≤ S512x6144.size d)
    (hL : View.PiecesOf (Val := Elt Ideal) (e := .bf16) (tailW x1 x2) L) (hc : ∀ y : S512x6144.Idx, ∃ p ∈ L, y ∈ p.1.set) :
    v.readCov L (Rect.unit (s := S512x6144) ![0, 0] S512x6144.size inb).toLoadRect = tailW x1 x2 := by
  rw [View.readCov_eq_canon_ld _ _ _ hc, View.ld_unit_zero (S := S512x6144) hz]
  funext y
  exact View.canon_apply_of_pieces (Val := Elt Ideal) (e := .bf16) (tailW x1 x2) L hL.mem y (hc y)

end Cert.KernelIdeal.Value

end
-- ==== Proof.Spec.lean ====
/-
  What both programs compute, away from either: the capped logits of the two tiers as functions of the arguments, the sums
  of their exponentials, the target's part of them, and the four results at a row.
-/
module

public import proofs.«01_k».proof.Proof.Tile
public import proofs.«01_k».proof.Proof.Nibble

@[expose] public section

noncomputable section

open Idealize.ShloMosaic Idealize.ShloMosaic.ValueIdx

namespace Cert.Spec

open Cert.KernelIdeal.Value (capped expd lowNum highNum)

/-- Channel `2 j` of a row. -/
def evenCh (j : Fin 3072) : Fin 6144 := ⟨2 * j.val, by omega⟩

/-- Channel `2 j + 1` of a row. -/
def oddCh (j : Fin 3072) : Fin 6144 := ⟨2 * j.val + 1, by omega⟩

/-- The scale that byte `j` of a row of the tail's weights takes. -/
def scaleOf (j : Fin 3072) : Fin 48 := ⟨j.val / 64, by omega⟩

/-- The capped logit (over 30) of row `(b, t)` at the head's vocabulary index `n`. -/
def headAt (X : (⟨3, ![8, 384, 6144]⟩ : Shape).Idx → EReal) (W : (⟨2, ![5120, 6144]⟩ : Shape).Idx → EReal)
    (S : (⟨1, ![5120]⟩ : Shape).Idx → EReal) (b : Fin 8) (t : Fin 384) (n : Fin 5120) : EReal :=
  capped ((∑ k : Fin 6144, X (ix3 b t k) * W (ix2 n k)) * S (ix1 n))

/-- The capped logit (over 30) of row `(b, t)` at the tail's vocabulary index `n`: even channels against the bytes' low
    numbers, odd channels against the high ones. -/
def tailAt (X : (⟨3, ![8, 384, 6144]⟩ : Shape).Idx → EReal) (W : (⟨2, ![60416, 3072]⟩ : Shape).Idx → BitVec 8)
    (S : (⟨2, ![60416, 48]⟩ : Shape).Idx → EReal) (b : Fin 8) (t : Fin 384) (n : Fin 60416) : EReal :=
  capped ((∑ j : Fin 3072, X (ix3 b t (evenCh j)) * (lowNum (W (ix2 n j)) * S (ix2 n (scaleOf j))))
    + ∑ j : Fin 3072, X (ix3 b t (oddCh j)) * (highNum (W (ix2 n j)) * S (ix2 n (scaleOf j))))

/-- The sum of the exponentials of a tier's logits. -/
def total {N : Nat} (T : Fin N → EReal) : EReal := ∑ n : Fin N, expd (T n)

/-- The part of a tier whose first vocabulary index is `base` in the picked value. -/
def picked {N : Nat} (tg : BitVec 32) (base : Nat) (T : Fin N → EReal) : EReal :=
  ∑ n : Fin N, if tg = BitVec.ofNat 32 (base + n.val) then T n else 0

/-- The logarithm of the sum of both tiers' exponentials. -/
def lseOf (H : Fin 5120 → EReal) (T : Fin 60416 → EReal) : EReal := Ideal.log (total H + total T)

/-- The target's log probability. -/
def probOf (H : Fin 5120 → EReal) (T : Fin 60416 → EReal) (tg : BitVec 32) : EReal :=
  Scalar.select (IntOp.cmpi .sge tg 0#32) (Ideal.ofBits .f32 0x41F00000#32 * (picked tg 0 H + picked tg 5120 T) - lseOf H T) 0

end Cert.Spec

end
-- ==== Proof.Channels.lean ====
/-
  The reordering of the channels, read: the table sends every group's even channels to its first 128 places and its odd
  ones to the others, so a product over the reordered channels with the unpacked weights is the product of the even
  channels with the bytes' low numbers plus that of the odd channels with the high ones.
-/
module

public import proofs.«01_k».proof.Proof.Permute
public import proofs.«01_k».proof.Proof.KernelHost
public import proofs.«01_k».proof.Proof.TailWeights
public import proofs.«01_k».proof.Proof.Spec

@[expose] public section

set_option maxRecDepth 16384

noncomputable section

open Idealize.ShloMosaic Idealize.ShloMosaic.ValueIdx

namespace Cert.KernelIdeal.Value

open Cert.KernelIdeal Cert.KernelIdeal.Gen Cert.Spec

/-- The place channel `i` of a group is sent to. -/
def placeNat (i : Nat) : Nat := if i % 2 = 0 then i / 2 else 128 + i / 2

/-- The host's places are these. -/
theorem place_apply : ∀ i : Fin 256, place (ix1 i) = BitVec.ofNat 32 (placeNat i.val) := by decide +kernel

/-- The channel of a group that place `q` takes. -/
def sourceNat (q : Nat) : Nat := if q < 128 then 2 * q else 2 * (q - 128) + 1

/-- It is a channel of the group. -/
theorem source_lt (q : Fin 256) : sourceNat q.val < 256 := by
  unfold sourceNat; split <;> omega

/-- The channel of a group that place `q` takes. -/
def source (q : Fin 256) : Fin 256 := ⟨sourceNat q.val, source_lt q⟩

/-- The table is one where the place takes the channel and zero elsewhere. -/
theorem table_apply (i q : Fin 256) : table (ix2 i q) = if i = source q then 1 else 0 := by
  have h1 : broadcastInDim S256x256 ![0, 1] bcast_S256x1_S256x256_0_1 (broadcastInDim S256x1 ![0] bcast_S256_S256x1_0 place) (ix2 i q) = BitVec.ofNat 32 (placeNat i.val) := by
    refine (broadcastInDim_apply _ _ _ (ix2 i q) (ix2 i (0 : Fin 1)) ?_).trans ((broadcastInDim_apply _ _ _ (ix2 i (0 : Fin 1)) (ix1 i) ?_).trans (place_apply i))
    · intro a; match a with
      | ⟨0, _⟩ => rfl
      | ⟨1, _⟩ => rfl
    · intro a; match a with
      | ⟨0, _⟩ => rfl
  have h2 : broadcastInDim S256x256 ![0, 1] bcast_S1x256_S256x256_0_1 (broadcastInDim S1x256 ![1] bcast_S256_S1x256_1 (iotaInDim S256 32 0)) (ix2 i q) = BitVec.ofNat 32 q.val := by
    refine (broadcastInDim_apply _ _ _ (ix2 i q) (ix2 (0 : Fin 1) q) ?_).trans ((broadcastInDim_apply _ _ _ (ix2 (0 : Fin 1) q) (ix1 q) ?_).trans rfl)
    · intro a; match a with
      | ⟨0, _⟩ => rfl
      | ⟨1, _⟩ => rfl
    · intro a; match a with
      | ⟨0, _⟩ => rfl
  have hk : placeNat i.val = q.val ↔ i = source q := by
    rw [Fin.ext_iff]
    show placeNat i.val = q.val ↔ i.val = sourceNat q.val
    have hi := i.isLt
    have hq := q.isLt
    unfold placeNat sourceNat
    generalize i.val = i at hi ⊢
    generalize q.val = q at hq ⊢
    split_ifs <;> omega
  have hp : placeNat i.val < 256 := by unfold placeNat; split <;> omega
  show (((Scalar.cmpi .eq (broadcastInDim S256x256 ![0, 1] bcast_S256x1_S256x256_0_1 (broadcastInDim S256x1 ![0] bcast_S256_S256x1_0 place) (ix2 i q))
    (broadcastInDim S256x256 ![0, 1] bcast_S1x256_S256x256_0_1 (broadcastInDim S1x256 ![1] bcast_S256_S1x256_1 (iotaInDim S256 32 0)) (ix2 i q))).toNat : ℝ) : EReal) = _
  rw [h1, h2]
  by_cases h : i = source q
  · rw [if_pos h, hk.mpr h]
    show (((IntOp.cmpi .eq _ _).toNat : ℝ) : EReal) = 1
    simp [IntOp.cmpi]
  · rw [if_neg h]
    have hne : BitVec.ofNat 32 (placeNat i.val) ≠ BitVec.ofNat 32 q.val := fun he => h (hk.mp (by
      have := congrArg BitVec.toNat he
      rw [BitVec.toNat_ofNat, BitVec.toNat_ofNat, Nat.mod_eq_of_lt (by omega), Nat.mod_eq_of_lt (by omega)] at this
      exact this))
    show (((IntOp.cmpi .eq _ _).toNat : ℝ) : EReal) = 0
    simp [IntOp.cmpi, hne]

/-- The channel that column `k` of the reordered rows holds. -/
def channelAt (k : Fin 6144) : Fin 6144 := groupCol k (source (inGroup k))

/-- The reordered rows. -/
theorem regrouped_table {m : Nat} (x : (⟨2, ![m, 6144]⟩ : Shape).Idx → EReal) (r : Fin m) (k : Fin 6144) :
    regrouped x table (ix2 r k) = x (ix2 r (channelAt k)) := by
  show (∑ i : Fin 256, x (ix2 r (groupCol k i)) * table (ix2 i (inGroup k))) = _
  rw [Finset.sum_eq_single (source (inGroup k))]
  · rw [table_apply, if_pos rfl, mul_one]
    rfl
  · intro i _ hi
    rw [table_apply, if_neg hi, mul_zero]
  · intro h
    exact absurd (Finset.mem_univ _) h

/-- A column of the reordered rows as a byte and which of its two numbers. -/
def bytePart : Fin 3072 × Fin 2 ≃ Fin 6144 where
  toFun p := ⟨256 * (p.1.val / 128) + 128 * p.2.val + p.1.val % 128, by have := p.1.isLt; have := p.2.isLt; omega⟩
  invFun k := (byteCol k, ⟨k.val % 256 / 128, by omega⟩)
  left_inv p := by
    have := p.1.isLt
    have := p.2.isLt
    refine Prod.ext (Fin.ext ?_) (Fin.ext ?_)
    · show 128 * ((256 * (p.1.val / 128) + 128 * p.2.val + p.1.val % 128) / 256) + (256 * (p.1.val / 128) + 128 * p.2.val + p.1.val % 128) % 128 = p.1.val
      omega
    · show (256 * (p.1.val / 128) + 128 * p.2.val + p.1.val % 128) % 256 / 128 = p.2.val
      omega
  right_inv k := by
    refine Fin.ext ?_
    show 256 * ((128 * (k.val / 256) + k.val % 128) / 128) + 128 * (k.val % 256 / 128) + (128 * (k.val / 256) + k.val % 128) % 128 = k.val
    omega

/-- The product over the reordered channels, byte by byte. -/
theorem channels_sum (x : Fin 6144 → EReal) (lo hi : Fin 3072 → EReal) (s : Fin 48 → EReal) :
    (∑ k : Fin 6144, x (channelAt k) * ((if k.val % 256 < 128 then lo (byteCol k) else hi (byteCol k)) * s (scaleCol k)))
      = (∑ j : Fin 3072, x (evenCh j) * (lo j * s (scaleOf j))) + ∑ j : Fin 3072, x (oddCh j) * (hi j * s (scaleOf j)) := by
  rw [← Equiv.sum_comp bytePart, Fintype.sum_prod_type, ← Finset.sum_add_distrib]
  refine Finset.sum_congr rfl fun j _ => ?_
  have hj := j.isLt
  rw [Fin.sum_univ_two]
  have hb : ∀ p : Fin 2, byteCol (bytePart (j, p)) = j := fun p => congrArg Prod.fst (bytePart.left_inv (j, p))
  have hs : ∀ p : Fin 2, scaleCol (bytePart (j, p)) = scaleOf j := fun p => Fin.ext <| by
    have := p.isLt
    show 2 * ((256 * (j.val / 128) + 128 * p.val + j.val % 128) / 256) + (256 * (j.val / 128) + 128 * p.val + j.val % 128) % 128 / 64 = j.val / 64
    omega
  have hv : ∀ p : Fin 2, (bytePart (j, p)).val = 256 * (j.val / 128) + 128 * p.val + j.val % 128 := fun p => rfl
  have hc0 : channelAt (bytePart (j, 0)) = evenCh j := Fin.ext <| by
    show 256 * ((bytePart (j, 0)).val / 256) + sourceNat ((bytePart (j, 0)).val % 256) = 2 * j.val
    rw [hv]; unfold sourceNat; rw [if_pos (by show _ < 128; simp; omega)]; simp; omega
  have hc1 : channelAt (bytePart (j, 1)) = oddCh j := Fin.ext <| by
    show 256 * ((bytePart (j, 1)).val / 256) + sourceNat ((bytePart (j, 1)).val % 256) = 2 * j.val + 1
    rw [hv]; unfold sourceNat; rw [if_neg (by simp; omega)]; simp; omega
  rw [hb, hb, hs, hs, hc0, hc1, if_pos (by rw [hv]; simp; omega), if_neg (by rw [hv]; simp; omega)]

end Cert.KernelIdeal.Value

end
-- ==== Proof.HeadTile.lean ====
/-
  The head tier's body at one grid point, read as values over the extended reals. The body walks the 3072 rows in six
  blocks of 512; every block is the same tile computation, so what it leaves in the two accumulators is one function of
  the row and the lane (`headSums`, `headPicks`), over what the accumulators held - or over zero at the point that clears
  them.
-/
module

public import proofs.«01_k».proof.Proof.Tile
public import proofs.«01_k».proof.Proof.Gen.KernelIdeal.Frame

@[expose] public section

set_option maxRecDepth 16384

noncomputable section

open Idealize.ShloMosaic Idealize.ShloMosaic.ValueIdx Idealize.ShloMosaic.TcCoe Idealize.SL.Sem

namespace Cert.KernelIdeal.Value

open Cert.KernelIdeal Cert.KernelIdeal.Gen

/-- The capped logit (over 30) of row `r` and column `q` of the tile: the product over the channels, times the column's
    scale, capped. -/
def headT (x : S3072x6144.Idx → EReal) (w : S512x6144.Idx → EReal) (s : S1x512.Idx → EReal) (r : Fin 3072) (q : Fin 512) : EReal :=
  capped ((∑ k : Fin 6144, x (ix2 r k) * w (ix2 q k)) * s (ix2 0 q))

/-- What the body leaves in the sums, over `old`. -/
def headSums (x : S3072x6144.Idx → EReal) (w : S512x6144.Idx → EReal) (s : S1x512.Idx → EReal) (old : S3072x128.Idx → EReal) :
    S3072x128.Idx → EReal := fun j => addSum (old j) (headT x w s (j 0)) (j 1)

/-- The target of row and lane `j`, relative to the first vocabulary index of the head tile `i`. -/
def headRel (i : grid1.Coords) (tg : BitVec 32) : BitVec 32 :=
  Scalar.subi tg (Scalar.addi 0#32 (Scalar.muli (BitVec.ofNat 32 (i 0).val) 512#32))

/-- What the body leaves in the picks, over `old`. -/
def headPicks (i : grid1.Coords) (x : S3072x6144.Idx → EReal) (w : S512x6144.Idx → EReal) (s : S1x512.Idx → EReal)
    (tg : S3072x128.Idx → BitVec 32) (old : S3072x128.Idx → EReal) : S3072x128.Idx → EReal :=
  fun j => addPick (old j) (headRel i (tg j)) (headT x w s (j 0)) (j 1)

/-- The tile of capped logits at `(r, q)`, whatever rows `a` holds. -/
theorem k1_pay7_apply (a : FVec Ideal S512x6144 .bf16) (w : Vec Ideal S512x6144 .fp8e4m3) (s : Vec Ideal S1x512 .f32) (r q : Fin 512) :
    k1_pay7 a (k1_pay5 w) s (ix2 r q) = capped ((∑ k : Fin 6144, a (ix2 r k) * w (ix2 q k)) * s (ix2 0 q)) := by
  unfold k1_pay7 k1_pay5
  simp only [shapeCast_self]
  show Ideal.tanh (matmul (F := Ideal) _ none _ _ _ (ix2 r q) * broadcastTo S512x512 s _ (ix2 r q) * _) = _
  rw [product_apply, broadcastTo_apply s _ (ix2 r q) (ix2 0 q) (fun a => by match a with | ⟨0, _⟩ => rfl | ⟨1, _⟩ => rfl)]
  rfl

/-- The tile of exponentials at `(r, q)`. -/
theorem k1_pay8_apply (a : FVec Ideal S512x6144 .bf16) (w : Vec Ideal S512x6144 .fp8e4m3) (s : Vec Ideal S1x512 .f32) (r q : Fin 512) :
    k1_pay8 a (k1_pay5 w) s (ix2 r q) = expd (capped ((∑ k : Fin 6144, a (ix2 r k) * w (ix2 q k)) * s (ix2 0 q))) := by
  unfold k1_pay8
  show Ideal.exp2 (k1_pay7 a (k1_pay5 w) s (ix2 r q) * Named.named (F := Ideal) κ "softcap_log2e" (φ := .f32) 0x422D1F97#32) = _
  rw [k1_pay7_apply, show Named.named (F := Ideal) κ "softcap_log2e" (φ := .f32) 0x422D1F97#32 = ((30 * (Real.log 2)⁻¹ : ℝ) : EReal)
    from IdealRules.named_const.ideal_named_scalar _ _ _ _ rfl]
  rfl

/-- One block of 512 rows, the sums: rows `o ..` of the accumulator become `headSums` there. -/
theorem head_sum_block (o : Nat) (ho : o + 512 ≤ 3072) (inx) (inb) (x : Vec Ideal S3072x6144 .bf16) (w : Vec Ideal S512x6144 .fp8e4m3)
    (s : Vec Ideal S1x512 .f32) (old : Vec Ideal S3072x128 .f32) (j : S512x128.Idx) :
    k1_pay12 (k1_pay8 (View.ld x (Rect.unit (s := S3072x6144) ![o, 0] S512x6144.size inx)) (k1_pay5 w) s)
        (k1_pay9 (View.ld old (Rect.unit (s := S3072x128) ![o, 0] S512x128.size inb)))
        (k1_pay11 (View.ld x (Rect.unit (s := S3072x6144) ![o, 0] S512x6144.size inx)) (k1_pay5 w) s) j
      = headSums x w s old ((Rect.unit (s := S3072x128) ![o, 0] S512x128.size inb).emb j) := by
  obtain ⟨r, l, rfl⟩ : ∃ r : Fin 512, ∃ l : Fin 128, j = ix2 r l := ⟨_, _, eq_ix2 j⟩
  rw [rows_emb o ho inb r l]
  have hx : ∀ k, View.ld x (Rect.unit (s := S3072x6144) ![o, 0] S512x6144.size inx) (ix2 r k) = x (ix2 (rowAt o ho r) k) :=
    fun k => rows_apply x o ho inx r k
  have hold : View.ld old (Rect.unit (s := S3072x128) ![o, 0] S512x128.size inb) (ix2 r l) = old (ix2 (rowAt o ho r) l) :=
    rows_apply old o ho inb r l
  generalize View.ld x (Rect.unit (s := S3072x6144) ![o, 0] S512x6144.size inx) = a at hx ⊢
  generalize View.ld old (Rect.unit (s := S3072x128) ![o, 0] S512x128.size inb) = b at hold ⊢
  unfold k1_pay12 k1_pay9 k1_pay11
  simp only [shapeCast_self, addf_apply, slice0, slice1, slice2, slice3, k1_pay8_apply, hx, hold]
  rfl

/-- One block of 512 rows, the picks: rows `o ..` of the accumulator become `headPicks` there. -/
theorem head_pick_block (i : grid1.Coords) (o : Nat) (ho : o + 512 ≤ 3072) (inx) (inb) (x : Vec Ideal S3072x6144 .bf16)
    (w : Vec Ideal S512x6144 .fp8e4m3)
    (s : Vec Ideal S1x512 .f32) (tg : Vec Ideal S3072x128 .i32) (old : Vec Ideal S3072x128 .f32) (j : S512x128.Idx) :
    k1_pay13 (k1_pay6 (F := Ideal) i (View.ld tg (Rect.unit (s := S3072x128) ![o, 0] S512x128.size inb)))
        (k1_pay7 (View.ld x (Rect.unit (s := S3072x6144) ![o, 0] S512x6144.size inx)) (k1_pay5 w) s)
        (iota Kind.tc S512x128 32 [1] iota_S512x128_d1_w32)
        (k1_pay10 (View.ld old (Rect.unit (s := S3072x128) ![o, 0] S512x128.size inb))) j
      = headPicks i x w s tg old ((Rect.unit (s := S3072x128) ![o, 0] S512x128.size inb).emb j) := by
  obtain ⟨r, l, rfl⟩ : ∃ r : Fin 512, ∃ l : Fin 128, j = ix2 r l := ⟨_, _, eq_ix2 j⟩
  rw [rows_emb o ho inb r l]
  have hi : iota Kind.tc S512x128 32 [1] iota_S512x128_d1_w32 (ix2 r l) = BitVec.ofNat 32 l.val := by simp [iota]
  have h0 : Scalar.ofBits (F := Ideal) .f32 0x00000000#32 = (0 : EReal) := by
    show Ideal.ofBits .f32 0x00000000#32 = 0; simp
  have hx : ∀ k, View.ld x (Rect.unit (s := S3072x6144) ![o, 0] S512x6144.size inx) (ix2 r k) = x (ix2 (rowAt o ho r) k) :=
    fun k => rows_apply x o ho inx r k
  have hold : View.ld old (Rect.unit (s := S3072x128) ![o, 0] S512x128.size inb) (ix2 r l) = old (ix2 (rowAt o ho r) l) :=
    rows_apply old o ho inb r l
  have htg : View.ld tg (Rect.unit (s := S3072x128) ![o, 0] S512x128.size inb) (ix2 r l) = tg (ix2 (rowAt o ho r) l) :=
    rows_apply tg o ho inb r l
  generalize View.ld x (Rect.unit (s := S3072x6144) ![o, 0] S512x6144.size inx) = a at hx ⊢
  generalize View.ld old (Rect.unit (s := S3072x128) ![o, 0] S512x128.size inb) = b at hold ⊢
  generalize View.ld tg (Rect.unit (s := S3072x128) ![o, 0] S512x128.size inb) = g at htg ⊢
  unfold k1_pay13 k1_pay10 k1_pay6
  simp only [shapeCast_self, addf_apply, select_apply, slice0, slice1, slice2, slice3, k1_pay7_apply, hx, hold, broadcast_apply, h0]
  unfold headPicks addPick headT hit
  simp only [← hi]
  unfold cmpi addi subi
  simp only [htg, broadcast_apply]
  rfl

/-! ## What the body leaves at a point -/

section Point

variable (c : Dev nD) (i : grid1.Coords) (arg1 : Memref sig .tc .vmem S3072x6144 .bf16) (harg1 : arg1.IsWhole)
  (arg2 : Memref sig .tc .vmem S512x6144 .fp8e4m3) (harg2 : arg2.IsWhole) (arg3 : Memref sig .tc .vmem S1x512 .f32) (harg3 : arg3.IsWhole)
  (arg4 : Memref sig .tc .vmem S3072x128 .i32) (harg4 : arg4.IsWhole) (arg5 : Memref sig .tc .vmem S3072x128 .f32) (harg5 : arg5.IsWhole)
  (arg6 : Memref sig .tc .vmem S3072x128 .f32) (harg6 : arg6.IsWhole) (arg7 : Memref sig .tc .vmem S512x6144 .bf16) (harg7 : arg7.IsWhole)
  (x0 : Vec Ideal S3072x6144 .bf16) (x1 : Vec Ideal S512x6144 .fp8e4m3) (x2 : Vec Ideal S1x512 .f32) (x3 : Vec Ideal S3072x128 .i32)
  (xo4 xo5 : Vec Ideal S3072x128 .f32)

/-- Past the first point, the sums: `headSums` over what they held. -/
theorem head_B_4 (hc : ¬cond1_0 i) :
    out1_B_4 c i arg1 harg1 arg2 harg2 arg3 harg3 arg4 harg4 arg5 harg5 arg6 harg6 arg7 harg7 hc x0 x1 x2 x3 xo4 xo5 = headSums x0 x1 x2 xo4 := by
  unfold out1_B_4
  rw [View.read_writes_eq_canon _ _ _ (cover1_B_4 c i arg1 harg1 arg2 harg2 arg3 harg3 arg4 harg4 arg5 harg5 arg6 harg6 arg7 harg7 hc x0 x1 x2 x3 xo4 xo5)]
  unfold kernelRun1_B
  dsimp only
  sl_unfold_words
  simp (disch := decide) only [↓View.readCov_skip, ↓View.readCov_fill, View.readAt_eq_ld, harg1.read_unread, harg2.read_unread, harg3.read_unread, harg4.read_unread, harg5.read_unread,
    harg6.read_unread, View.ld_unit_zero (S := S512x6144) hz, View.ld_unit_zero (S := S1x512) hz, View.readCov_unit_zero (S := S512x6144) _ hz]
  funext y
  refine View.canon_apply_of_pieces (Val := Elt Ideal) (e := .f32) (headSums x0 x1 x2 xo4) _ ?_ y ?_
  swap
  · exact View.cover_of_tiledL (s := S3072x128) _ ![512, 128] (by sl_kernel_rfl) y
  exact View.PiecesOf.mem ⟨head_sum_block 2560 (by omega) inb_S3072x6144_S512x6144_2560_0 inb_S3072x128_S512x128_2560_0 _ _ _ xo4,
    head_sum_block 2048 (by omega) inb_S3072x6144_S512x6144_2048_0 inb_S3072x128_S512x128_2048_0 _ _ _ xo4,
    head_sum_block 1536 (by omega) inb_S3072x6144_S512x6144_1536_0 inb_S3072x128_S512x128_1536_0 _ _ _ xo4,
    head_sum_block 1024 (by omega) inb_S3072x6144_S512x6144_1024_0 inb_S3072x128_S512x128_1024_0 _ _ _ xo4,
    head_sum_block 512 (by omega) inb_S3072x6144_S512x6144_512_0 inb_S3072x128_S512x128_512_0 _ _ _ xo4,
    head_sum_block 0 (by omega) inb_S3072x6144_S512x6144_0_0 inb_S3072x128_S512x128_0_0 _ _ _ xo4, trivial⟩

/-- Past the first point, the picks: `headPicks` over what they held. -/
theorem head_B_5 (hc : ¬cond1_0 i) :
    out1_B_5 c i arg1 harg1 arg2 harg2 arg3 harg3 arg4 harg4 arg5 harg5 arg6 harg6 arg7 harg7 hc x0 x1 x2 x3 xo4 xo5 = headPicks i x0 x1 x2 x3 xo5 := by
  unfold out1_B_5
  rw [View.read_writes_eq_canon _ _ _ (cover1_B_5 c i arg1 harg1 arg2 harg2 arg3 harg3 arg4 harg4 arg5 harg5 arg6 harg6 arg7 harg7 hc x0 x1 x2 x3 xo4 xo5)]
  unfold kernelRun1_B
  dsimp only
  sl_unfold_words
  simp (disch := decide) only [↓View.readCov_skip, ↓View.readCov_fill, View.readAt_eq_ld, harg1.read_unread, harg2.read_unread, harg3.read_unread, harg4.read_unread, harg5.read_unread,
    harg6.read_unread, View.ld_unit_zero (S := S512x6144) hz, View.ld_unit_zero (S := S1x512) hz, View.readCov_unit_zero (S := S512x6144) _ hz]
  funext y
  refine View.canon_apply_of_pieces (Val := Elt Ideal) (e := .f32) (headPicks i x0 x1 x2 x3 xo5) _ ?_ y ?_
  swap
  · exact View.cover_of_tiledL (s := S3072x128) _ ![512, 128] (by sl_kernel_rfl) y
  exact View.PiecesOf.mem ⟨head_pick_block i 2560 (by omega) inb_S3072x6144_S512x6144_2560_0 inb_S3072x128_S512x128_2560_0 _ _ _ _ xo5,
    head_pick_block i 2048 (by omega) inb_S3072x6144_S512x6144_2048_0 inb_S3072x128_S512x128_2048_0 _ _ _ _ xo5,
    head_pick_block i 1536 (by omega) inb_S3072x6144_S512x6144_1536_0 inb_S3072x128_S512x128_1536_0 _ _ _ _ xo5,
    head_pick_block i 1024 (by omega) inb_S3072x6144_S512x6144_1024_0 inb_S3072x128_S512x128_1024_0 _ _ _ _ xo5,
    head_pick_block i 512 (by omega) inb_S3072x6144_S512x6144_512_0 inb_S3072x128_S512x128_512_0 _ _ _ _ xo5,
    head_pick_block i 0 (by omega) inb_S3072x6144_S512x6144_0_0 inb_S3072x128_S512x128_0_0 _ _ _ _ xo5, trivial⟩

/-- At the point that clears them, the sums: `headSums` over zero. -/
theorem head_A_4 (hc : cond1_0 i) :
    out1_A_4 c i arg1 harg1 arg2 harg2 arg3 harg3 arg4 harg4 arg5 harg5 arg6 harg6 arg7 harg7 hc x0 x1 x2 x3 = headSums x0 x1 x2 (k1_pay3 (F := Ideal)) := by
  unfold out1_A_4
  rw [View.read_writes_eq_canon _ _ _ (cover1_A_4 c i arg1 harg1 arg2 harg2 arg3 harg3 arg4 harg4 arg5 harg5 arg6 harg6 arg7 harg7 hc x0 x1 x2 x3)]
  unfold kernelRun1_A
  dsimp only
  sl_unfold_words
  simp (disch := decide) only [↓View.readCov_skip, ↓View.readCov_fill, View.readAt_eq_ld, harg1.read_unread, harg2.read_unread, harg3.read_unread, harg4.read_unread, harg5.read_unread,
    harg6.read_unread, View.ld_unit_zero (S := S512x6144) hz, View.ld_unit_zero (S := S1x512) hz, View.readCov_unit_zero (S := S512x6144) _ hz]
  funext y
  refine View.canon_append_of_piecesOf (Val := Elt Ideal) (e := .f32) (headSums x0 x1 x2 (k1_pay3 (F := Ideal))) [_] [_, _, _, _, _, _] ?_ y ?_
  swap
  · exact View.cover_of_tiledL (s := S3072x128) _ ![512, 128] (by sl_kernel_rfl) y
  exact ⟨head_sum_block 2560 (by omega) inb_S3072x6144_S512x6144_2560_0 inb_S3072x128_S512x128_2560_0 _ _ _ (k1_pay3 (F := Ideal)),
    head_sum_block 2048 (by omega) inb_S3072x6144_S512x6144_2048_0 inb_S3072x128_S512x128_2048_0 _ _ _ (k1_pay3 (F := Ideal)),
    head_sum_block 1536 (by omega) inb_S3072x6144_S512x6144_1536_0 inb_S3072x128_S512x128_1536_0 _ _ _ (k1_pay3 (F := Ideal)),
    head_sum_block 1024 (by omega) inb_S3072x6144_S512x6144_1024_0 inb_S3072x128_S512x128_1024_0 _ _ _ (k1_pay3 (F := Ideal)),
    head_sum_block 512 (by omega) inb_S3072x6144_S512x6144_512_0 inb_S3072x128_S512x128_512_0 _ _ _ (k1_pay3 (F := Ideal)),
    head_sum_block 0 (by omega) inb_S3072x6144_S512x6144_0_0 inb_S3072x128_S512x128_0_0 _ _ _ (k1_pay3 (F := Ideal)), trivial⟩

/-- At the point that clears them, the picks: `headPicks` over zero. -/
theorem head_A_5 (hc : cond1_0 i) :
    out1_A_5 c i arg1 harg1 arg2 harg2 arg3 harg3 arg4 harg4 arg5 harg5 arg6 harg6 arg7 harg7 hc x0 x1 x2 x3 = headPicks i x0 x1 x2 x3 (k1_pay4 (F := Ideal)) := by
  unfold out1_A_5
  rw [View.read_writes_eq_canon _ _ _ (cover1_A_5 c i arg1 harg1 arg2 harg2 arg3 harg3 arg4 harg4 arg5 harg5 arg6 harg6 arg7 harg7 hc x0 x1 x2 x3)]
  unfold kernelRun1_A
  dsimp only
  sl_unfold_words
  simp (disch := decide) only [↓View.readCov_skip, ↓View.readCov_fill, View.readAt_eq_ld, harg1.read_unread, harg2.read_unread, harg3.read_unread, harg4.read_unread, harg5.read_unread,
    harg6.read_unread, View.ld_unit_zero (S := S512x6144) hz, View.ld_unit_zero (S := S1x512) hz, View.readCov_unit_zero (S := S512x6144) _ hz]
  funext y
  refine View.canon_append_of_piecesOf (Val := Elt Ideal) (e := .f32) (headPicks i x0 x1 x2 x3 (k1_pay4 (F := Ideal))) [_] [_, _, _, _, _, _] ?_ y ?_
  swap
  · exact View.cover_of_tiledL (s := S3072x128) _ ![512, 128] (by sl_kernel_rfl) y
  exact ⟨head_pick_block i 2560 (by omega) inb_S3072x6144_S512x6144_2560_0 inb_S3072x128_S512x128_2560_0 _ _ _ _ (k1_pay4 (F := Ideal)),
    head_pick_block i 2048 (by omega) inb_S3072x6144_S512x6144_2048_0 inb_S3072x128_S512x128_2048_0 _ _ _ _ (k1_pay4 (F := Ideal)),
    head_pick_block i 1536 (by omega) inb_S3072x6144_S512x6144_1536_0 inb_S3072x128_S512x128_1536_0 _ _ _ _ (k1_pay4 (F := Ideal)),
    head_pick_block i 1024 (by omega) inb_S3072x6144_S512x6144_1024_0 inb_S3072x128_S512x128_1024_0 _ _ _ _ (k1_pay4 (F := Ideal)),
    head_pick_block i 512 (by omega) inb_S3072x6144_S512x6144_512_0 inb_S3072x128_S512x128_512_0 _ _ _ _ (k1_pay4 (F := Ideal)),
    head_pick_block i 0 (by omega) inb_S3072x6144_S512x6144_0_0 inb_S3072x128_S512x128_0_0 _ _ _ _ (k1_pay4 (F := Ideal)), trivial⟩

end Point

end Cert.KernelIdeal.Value

end
-- ==== Proof.Accum.lean ====
/-
  The two accumulators across the grid, away from the program: adding one tile after the other to a lane is the sum over
  the tiles and over the four columns of a tile that lie in the lane; and the lane's picked value is the same sum of the
  capped logits, each only at the column whose vocabulary index is the target.
-/
module

public import proofs.«01_k».proof.Proof.Tile

@[expose] public section

set_option maxRecDepth 16384

noncomputable section

open Idealize.ShloMosaic Idealize.ShloMosaic.ValueIdx

namespace Cert.KernelIdeal.Value

open Cert.KernelIdeal Cert.KernelIdeal.Gen

/-- A lane's sum after the tiles `0 .. n`, as the grid adds them: tile `v` holds the capped logits `T v`. -/
def accSum (T : Nat → Fin 512 → EReal) (l : Fin 128) : Nat → EReal
  | 0 => addSum 0 (T 0) l
  | n + 1 => addSum (accSum T l n) (T (n + 1)) l

/-- It is the sum over the tiles and the lane's four columns. -/
theorem accSum_eq (T : Nat → Fin 512 → EReal) (l : Fin 128) (n : Nat) :
    accSum T l n = ∑ v ∈ Finset.range (n + 1), ∑ c : Fin 4, expd (T v (laneCol c l)) := by
  induction n with
  | zero => simp [accSum, addSum, Fin.sum_univ_four]
  | succ n ih =>
    rw [Finset.sum_range_succ, ← ih]
    simp only [accSum, addSum, Fin.sum_univ_four, add_assoc]

/-- The target relative to the first vocabulary index of tile `v`, of a tier whose vocabulary starts at `base`. -/
def relTo (base : BitVec 32) (v : Nat) (tg : BitVec 32) : BitVec 32 :=
  Scalar.subi tg (Scalar.addi base (Scalar.muli (BitVec.ofNat 32 v) 512#32))

/-- A lane's picked value after the tiles `0 .. n`, as the grid adds them. -/
def accPick (base tg : BitVec 32) (T : Nat → Fin 512 → EReal) (l : Fin 128) : Nat → EReal
  | 0 => addPick 0 (relTo base 0 tg) (T 0) l
  | n + 1 => addPick (accPick base tg T l n) (relTo base (n + 1) tg) (T (n + 1)) l

/-- One column's part of the picked value: the capped logit where the target is this column's vocabulary index. -/
theorem hit_eq (b v k : Nat) (tg : BitVec 32) (l : Fin 128) (t : EReal) :
    hit (relTo (BitVec.ofNat 32 b) v tg) l (BitVec.ofNat 32 k) t = if tg = BitVec.ofNat 32 (b + (512 * v + (k + l.val))) then t else 0 := by
  have key : relTo (BitVec.ofNat 32 b) v tg = Scalar.addi (BitVec.ofNat 32 l.val) (BitVec.ofNat 32 k)
      ↔ tg = BitVec.ofNat 32 (b + (512 * v + (k + l.val))) := by
    have e1 : relTo (BitVec.ofNat 32 b) v tg = tg - (BitVec.ofNat 32 b + BitVec.ofNat 32 v * 512#32) := rfl
    have e2 : Scalar.addi (BitVec.ofNat 32 l.val) (BitVec.ofNat 32 k) = BitVec.ofNat 32 l.val + BitVec.ofNat 32 k := rfl
    rw [e1, e2]
    have e3 : BitVec.ofNat 32 (b + (512 * v + (k + l.val)))
        = (BitVec.ofNat 32 l.val + BitVec.ofNat 32 k) + (BitVec.ofNat 32 b + BitVec.ofNat 32 v * 512#32) := by
      rw [show (512#32) = BitVec.ofNat 32 512 from rfl]
      rw [← BitVec.ofNat_mul, ← BitVec.ofNat_add, ← BitVec.ofNat_add, ← BitVec.ofNat_add]
      congr 1; ring
    rw [e3]
    generalize BitVec.ofNat 32 l.val + BitVec.ofNat 32 k = p
    generalize BitVec.ofNat 32 b + BitVec.ofNat 32 v * 512#32 = q
    exact ⟨fun h => by rw [← h, BitVec.sub_add_cancel], fun h => by rw [h, BitVec.add_sub_cancel]⟩
  unfold hit
  by_cases h : tg = BitVec.ofNat 32 (b + (512 * v + (k + l.val)))
  · rw [if_pos h, key.mpr h]
    simp [Scalar.cmpi, IntOp.cmpi, Scalar.select]
  · rw [if_neg h]
    have h' := fun e => h (key.mp e)
    have h2 : (relTo (BitVec.ofNat 32 b) v tg == Scalar.addi (BitVec.ofNat 32 l.val) (BitVec.ofNat 32 k)) = false := beq_eq_false_iff_ne.mpr h'
    simp [Scalar.cmpi, IntOp.cmpi, Scalar.select, h2]

/-- The picked value is the sum over the tiles and the lane's four columns of those parts. -/
theorem accPick_eq (b : Nat) (tg : BitVec 32) (T : Nat → Fin 512 → EReal) (l : Fin 128) (n : Nat) :
    accPick (BitVec.ofNat 32 b) tg T l n = ∑ v ∈ Finset.range (n + 1), ∑ c : Fin 4,
      if tg = BitVec.ofNat 32 (b + (512 * v + (laneCol c l).val)) then T v (laneCol c l) else 0 := by
  have step : ∀ old v, addPick old (relTo (BitVec.ofNat 32 b) v tg) (T v) l = old + ∑ c : Fin 4,
      if tg = BitVec.ofNat 32 (b + (512 * v + (laneCol c l).val)) then T v (laneCol c l) else 0 := by
    intro old v
    unfold addPick
    rw [show (0#32) = BitVec.ofNat 32 0 from rfl, show (128#32) = BitVec.ofNat 32 128 from rfl,
      show (256#32) = BitVec.ofNat 32 256 from rfl, show (384#32) = BitVec.ofNat 32 384 from rfl,
      hit_eq, hit_eq, hit_eq, hit_eq, Fin.sum_univ_four]
    simp only [add_assoc]
    rfl
  induction n with
  | zero => rw [accPick, step, zero_add, Finset.sum_range_one]
  | succ n ih => rw [Finset.sum_range_succ, ← ih, accPick, step]

/-- Tiles, lanes and lane groups together run over every column of `N` tiles once. -/
theorem sum_columns (N : Nat) (f : Nat → EReal) :
    ∑ l : Fin 128, ∑ v ∈ Finset.range N, ∑ c : Fin 4, f (512 * v + (laneCol c l).val) = ∑ n ∈ Finset.range (512 * N), f n := by
  rw [Finset.sum_comm]
  induction N with
  | zero => simp
  | succ N ih =>
    rw [Finset.sum_range_succ, ih, show 512 * (N + 1) = 512 * N + 512 by ring, Finset.sum_range_add]
    congr 1
    rw [Finset.sum_comm, Finset.sum_range (n := 512)]
    rw [← Finset.sum_product', ← Equiv.sum_comp (finProdFinEquiv (m := 4) (n := 128)) (fun i : Fin (4 * 128) => f (512 * N + i.val))]
    refine Finset.sum_congr rfl fun x _ => ?_
    congr 2
    show 128 * x.1.val + x.2.val = x.2.val + 128 * x.1.val
    ring

end Cert.KernelIdeal.Value

end
-- ==== Proof.HeadArray.lean ====
/-
  The head tier across its grid: what the two arrays hold when its last point is done. Row `r`, lane `l` of the sums is the
  sum of the exponentials of the row's capped logits at the vocabulary indices of that lane; of the picks, the capped
  logit at the target if the target's lane is `l`.
-/
module

public import proofs.«01_k».proof.Proof.HeadTile
public import proofs.«01_k».proof.Proof.Accum

@[expose] public section

set_option maxRecDepth 16384

noncomputable section

open Idealize.ShloMosaic Idealize.ShloMosaic.ValueIdx Idealize.ShloMosaic.TcCoe Idealize.SL.Sem
open Idealize.ShloMosaic.Pipeline (Dat Cfg Window cellOf)

namespace Cert.KernelIdeal.Value

open Cert.KernelIdeal Cert.KernelIdeal.Gen

/-- The capped logit (over 30) of row `r` at the head's vocabulary index `n`: the product over the channels, times the scale. -/
def headLogit (X : S3072x6144.Idx → EReal) (W : S5120x6144.Idx → EReal) (S : S1x5120.Idx → EReal) (r : Fin 3072) (n : Fin 5120) : EReal :=
  capped ((∑ k : Fin 6144, X (ix2 r k) * W (ix2 n k)) * S (ix2 0 n))

/-- The vocabulary index (in the tier) of column `q` of tile `v`. -/
def headCol (v : Nat) (q : Fin 512) : Fin 5120 := ⟨(512 * v + q.val) % 5120, Nat.mod_lt _ (by decide)⟩

variable (V : (c : Dev nD) → (b : Ref sig .tc) → Buf (Elt Ideal) ((c : Thread nD τ).loc b)) (c : Dev nD)

/-- The rows' block is the whole array at every point. -/
theorem head_x (t : Fin cfg1.N) (r : Fin 3072) (k : Fin 6144) :
    (iblk1 V c 0 t : Vec Ideal S3072x6144 .bf16) (ix2 r k) = (V c main_v0 : S3072x6144.Idx → EReal) (ix2 r k) := by
  have hi : win1_0.index t 0 = 0 ∧ win1_0.index t 1 = 0 := by revert t; decide +kernel
  unfold iblk1
  rw [View.read_apply]
  show V c main_v0 _ = V c main_v0 _
  congr 1
  funext a
  apply Fin.ext
  match a with
  | ⟨0, _⟩ => show win1_0.index t 0 * 3072 + 1 * r.val = r.val; rw [hi.1]; omega
  | ⟨1, _⟩ => show win1_0.index t 1 * 6144 + 1 * k.val = k.val; rw [hi.2]; omega

/-- The weights' block at point `t`: rows `512 t ..` of the weights. -/
theorem head_w (t : Fin cfg1.N) (q : Fin 512) (k : Fin 6144) :
    (iblk1 V c 1 t : Vec Ideal S512x6144 .fp8e4m3) (ix2 q k) = (V c main_arg1 : S5120x6144.Idx → EReal) (ix2 (headCol t.val q) k) := by
  have hi : win1_1.index t 0 = t.val ∧ win1_1.index t 1 = 0 := by revert t; decide +kernel
  have ht : t.val < 10 := lt_of_lt_of_eq t.isLt N_1
  unfold iblk1
  rw [View.read_apply]
  show V c main_arg1 _ = V c main_arg1 _
  congr 1
  funext a
  apply Fin.ext
  match a with
  | ⟨0, _⟩ => show win1_1.index t 0 * 512 + 1 * q.val = (512 * t.val + q.val) % 5120; rw [hi.1]; omega
  | ⟨1, _⟩ => show win1_1.index t 1 * 6144 + 1 * k.val = k.val; rw [hi.2]; omega

/-- The scales' block at point `t`: columns `512 t ..` of the scales. -/
theorem head_s (t : Fin cfg1.N) (q : Fin 512) :
    (iblk1 V c 2 t : Vec Ideal S1x512 .f32) (ix2 0 q) = (V c main_v20 : S1x5120.Idx → EReal) (ix2 0 (headCol t.val q)) := by
  have hi : win1_2.index t 0 = 0 ∧ win1_2.index t 1 = t.val := by revert t; decide +kernel
  have ht : t.val < 10 := lt_of_lt_of_eq t.isLt N_1
  unfold iblk1
  rw [View.read_apply]
  show V c main_v20 _ = V c main_v20 _
  congr 1
  funext a
  apply Fin.ext
  match a with
  | ⟨0, _⟩ => show win1_2.index t 0 * 1 + 1 * 0 = 0; rw [hi.1]
  | ⟨1, _⟩ => show win1_2.index t 1 * 512 + 1 * q.val = (512 * t.val + q.val) % 5120; rw [hi.2]; omega

/-- The targets' block is the whole array at every point. -/
theorem head_tg (t : Fin cfg1.N) (j : S3072x128.Idx) :
    (iblk1 V c 3 t : Vec Ideal S3072x128 .i32) j = (V c main_v19 : S3072x128.Idx → BitVec 32) j := by
  have hi : win1_3.index t 0 = 0 ∧ win1_3.index t 1 = 0 := by revert t; decide +kernel
  unfold iblk1
  rw [View.read_apply]
  show V c main_v19 _ = V c main_v19 _
  congr 1
  funext a
  apply Fin.ext
  match a with
  | ⟨0, _⟩ => show win1_3.index t 0 * 3072 + 1 * (j 0).val = (j 0).val; rw [hi.1]; omega
  | ⟨1, _⟩ => show win1_3.index t 1 * 128 + 1 * (j 1).val = (j 1).val; rw [hi.2]; omega

/-- The tile of point `t`, in terms of the arrays. -/
theorem head_tile (t : Fin cfg1.N) (r : Fin 3072) :
    headT (iblk1 V c 0 t) (iblk1 V c 1 t) (iblk1 V c 2 t) r = fun q => headLogit (V c main_v0) (V c main_arg1) (V c main_v20) r (headCol t.val q) := by
  funext q
  unfold headT headLogit
  rw [head_s]
  simp only [head_x, head_w]

/-- The tiles of row `r`, by their number. -/
def headTiles (r : Fin 3072) (v : Nat) (q : Fin 512) : EReal := headLogit (V c main_v0) (V c main_arg1) (V c main_v20) r (headCol v q)

/-- One point's step, in terms of the arrays: the tile is the point's, the target relative to the tile's first index. -/
theorem head_step (t : Fin cfg1.N) (old old' : S3072x128.Idx → EReal) :
    headSums (iblk1 V c 0 t) (iblk1 V c 1 t) (iblk1 V c 2 t) old = (fun j => addSum (old j) (headTiles V c (j 0) t.val) (j 1))
    ∧ headPicks (grid1.coords t) (iblk1 V c 0 t) (iblk1 V c 1 t) (iblk1 V c 2 t) (iblk1 V c 3 t) old'
      = fun j => addPick (old' j) (relTo (BitVec.ofNat 32 0) t.val ((V c main_v19 : S3072x128.Idx → BitVec 32) j)) (headTiles V c (j 0) t.val) (j 1) := by
  have hg : (grid1.coords t 0).val = t.val := by revert t; decide +kernel
  constructor
  · funext j
    obtain ⟨r, l, rfl⟩ : ∃ r : Fin 3072, ∃ l : Fin 128, j = ix2 r l := ⟨_, _, eq_ix2 j⟩
    exact congrArg (fun T => addSum (old (ix2 r l)) T l) (head_tile V c t r)
  · funext j
    obtain ⟨r, l, rfl⟩ : ∃ r : Fin 3072, ∃ l : Fin 128, j = ix2 r l := ⟨_, _, eq_ix2 j⟩
    refine (congrArg (fun T => addPick (old' (ix2 r l)) (headRel (grid1.coords t) (iblk1 V c 3 t (ix2 r l))) T l) (head_tile V c t r)).trans ?_
    rw [head_tg]
    unfold headRel
    rw [hg]
    rfl

/-- What the two staging buffers hold after point `n`: the accumulations over the tiles `0 .. n`. -/
theorem head_outs : ∀ (n : Nat) (hn : n < cfg1.N), outsAt1 V c n hn
    = (fun j => accSum (headTiles V c (j 0)) (j 1) n,
       fun j => accPick (BitVec.ofNat 32 0) ((V c main_v19 : S3072x128.Idx → BitVec 32) j) (headTiles V c (j 0)) (j 1) n)
  | 0, hn => by
    have hz0 : ∀ j, k1_pay3 (F := Ideal) j = (0 : EReal) := fun j => by show Ideal.ofBits .f32 0x00000000#32 = 0; simp
    have hz1 : ∀ j, k1_pay4 (F := Ideal) j = (0 : EReal) := fun j => by show Ideal.ofBits .f32 0x00000000#32 = 0; simp
    refine (outsAt1_A V c ⟨0, hn⟩ rfl).trans ?_
    rw [head_A_4, head_A_5, (head_step V c ⟨0, hn⟩ _ (k1_pay4 (F := Ideal))).1, (head_step V c ⟨0, hn⟩ (k1_pay3 (F := Ideal)) _).2]
    simp only [hz0, hz1]
    rfl
  | n + 1, hn => by
    have hN : cfg1.N = 10 := N_1
    have hB : ¬(⟨n + 1, hn⟩ : Fin cfg1.N).val % 10 = 0 := by dsimp only; omega
    refine (outsAt1_B V c ⟨n + 1, hn⟩ hB).trans ?_
    rw [head_B_4, head_B_5, (head_step V c ⟨n + 1, hn⟩ _ (k1_pay4 (F := Ideal))).1, (head_step V c ⟨n + 1, hn⟩ (k1_pay3 (F := Ideal)) _).2]
    have ih := head_outs n (Nat.lt_of_succ_lt hn)
    refine Prod.ext (funext fun j => ?_) (funext fun j => ?_)
    · show addSum ((outsAt1 V c n _).1 j) _ _ = addSum _ _ _
      rw [ih]
    · show addPick ((outsAt1 V c n _).2 j) _ _ _ = addPick _ _ _ _
      rw [ih]

/-- The last point. -/
abbrev headLast : Fin cfg1.N := ⟨9, by rw [show cfg1.N = 10 from N_1]; decide⟩

/-- The sums the tier ends with. -/
def headSumsEnd (j : S3072x128.Idx) : EReal := accSum (headTiles V c (j 0)) (j 1) 9

/-- The picks the tier ends with. -/
def headPicksEnd (j : S3072x128.Idx) : EReal :=
  accPick (BitVec.ofNat 32 0) ((V c main_v19 : S3072x128.Idx → BitVec 32) j) (headTiles V c (j 0)) (j 1) 9

/-- The one write-back of the sums, at the last point, writes them. -/
theorem head_flushed_4 (t : Fin cfg1.N) (hf : (cfg1.win 4).flush t = true) :
    (dat1 V c).flushed 4 t = ((cfg1.win 4).blk t).view.read (Elt Ideal) ((headSumsEnd V c : S3072x128.Idx → EReal) : Buf (Elt Ideal) ((c : Thread nD τ).loc main_v21_0)) := by
  have h9 : t.val = 9 := by have := (flush1_4 t).mp hf; have := lt_of_lt_of_eq t.isLt N_1; omega
  show (cfg1.win 4).cut (grid1.coords t) ((dat1 V c).after 4 t) = _
  rw [after1_4, head_outs]
  have hz' : (fun a => win1_4.index t a * main_v21_0.ty.shape.size a) = fun _ => 0 := by
    revert t; decide +kernel
  refine Eq.trans ?_ (Memref.read_access_unit_zero (Elt Ideal) main_v21_0 hz' (fun a => by rw [congrFun hz' a]; simp) (headSumsEnd V c)).symm
  dsimp only
  rw [h9]
  rfl

/-- So the array of the sums ends holding them. -/
theorem head_final_4 : (dat1 V c).arrAt 4 cfg1.N = ((headSumsEnd V c : S3072x128.Idx → EReal) : Buf (Elt Ideal) ((c : Thread nD τ).loc main_v21_0)) :=
  (dat1 V c).arrAt_eq_of_cover 4 _ (head_flushed_4 V c) fun i =>
    ⟨headLast, (flush1_4 headLast).mpr rfl, by
      show i ∈ ((View.whole main_v21_0).slice (win1_4.rect headLast)).set
      rw [View.set_slice_whole, Rect.mem_set_unit]
      intro a
      have h0 : (i 0 : Nat) < 3072 := (i 0).isLt
      have h1 : (i 1 : Nat) < 128 := (i 1).isLt
      match a with
      | ⟨0, _⟩ => show win1_4.index headLast 0 * win1_4.size 0 ≤ (i 0 : Nat) ∧ (i 0 : Nat) < win1_4.index headLast 0 * win1_4.size 0 + win1_4.xsize (grid1.coords headLast) 0
                  rw [show win1_4.index headLast 0 * win1_4.size 0 = 0 from by decide +kernel, show win1_4.xsize (grid1.coords headLast) 0 = 3072 from by decide +kernel]; omega
      | ⟨1, _⟩ => show win1_4.index headLast 1 * win1_4.size 1 ≤ (i 1 : Nat) ∧ (i 1 : Nat) < win1_4.index headLast 1 * win1_4.size 1 + win1_4.xsize (grid1.coords headLast) 1
                  rw [show win1_4.index headLast 1 * win1_4.size 1 = 0 from by decide +kernel, show win1_4.xsize (grid1.coords headLast) 1 = 128 from by decide +kernel]; omega⟩

/-- The one write-back of the picks, at the last point, writes them. -/
theorem head_flushed_5 (t : Fin cfg1.N) (hf : (cfg1.win 5).flush t = true) :
    (dat1 V c).flushed 5 t = ((cfg1.win 5).blk t).view.read (Elt Ideal) ((headPicksEnd V c : S3072x128.Idx → EReal) : Buf (Elt Ideal) ((c : Thread nD τ).loc main_v21_1)) := by
  have h9 : t.val = 9 := by have := (flush1_5 t).mp hf; have := lt_of_lt_of_eq t.isLt N_1; omega
  show (cfg1.win 5).cut (grid1.coords t) ((dat1 V c).after 5 t) = _
  rw [after1_5, head_outs]
  have hz' : (fun a => win1_5.index t a * main_v21_1.ty.shape.size a) = fun _ => 0 := by
    revert t; decide +kernel
  refine Eq.trans ?_ (Memref.read_access_unit_zero (Elt Ideal) main_v21_1 hz' (fun a => by rw [congrFun hz' a]; simp) (headPicksEnd V c)).symm
  dsimp only
  rw [h9]
  rfl

/-- So the array of the picks ends holding them. -/
theorem head_final_5 : (dat1 V c).arrAt 5 cfg1.N = ((headPicksEnd V c : S3072x128.Idx → EReal) : Buf (Elt Ideal) ((c : Thread nD τ).loc main_v21_1)) :=
  (dat1 V c).arrAt_eq_of_cover 5 _ (head_flushed_5 V c) fun i =>
    ⟨headLast, (flush1_5 headLast).mpr rfl, by
      show i ∈ ((View.whole main_v21_1).slice (win1_5.rect headLast)).set
      rw [View.set_slice_whole, Rect.mem_set_unit]
      intro a
      have h0 : (i 0 : Nat) < 3072 := (i 0).isLt
      have h1 : (i 1 : Nat) < 128 := (i 1).isLt
      match a with
      | ⟨0, _⟩ => show win1_5.index headLast 0 * win1_5.size 0 ≤ (i 0 : Nat) ∧ (i 0 : Nat) < win1_5.index headLast 0 * win1_5.size 0 + win1_5.xsize (grid1.coords headLast) 0
                  rw [show win1_5.index headLast 0 * win1_5.size 0 = 0 from by decide +kernel, show win1_5.xsize (grid1.coords headLast) 0 = 3072 from by decide +kernel]; omega
      | ⟨1, _⟩ => show win1_5.index headLast 1 * win1_5.size 1 ≤ (i 1 : Nat) ∧ (i 1 : Nat) < win1_5.index headLast 1 * win1_5.size 1 + win1_5.xsize (grid1.coords headLast) 1
                  rw [show win1_5.index headLast 1 * win1_5.size 1 = 0 from by decide +kernel, show win1_5.xsize (grid1.coords headLast) 1 = 128 from by decide +kernel]; omega⟩

end Cert.KernelIdeal.Value

end
-- ==== Proof.TailTile.lean ====
/-
  The tail tier's body at one grid point, read as values over the extended reals: the weights of the tile are unpacked
  into the scratch once (`tailW`), and the 3072 rows are walked in six blocks of 512 exactly as in the head tier, without
  the column scale. What the body leaves in the accumulators is `tailSums` and `tailPicks` over what they held - or over
  zero at the point that clears them.
-/
module

public import proofs.«01_k».proof.Proof.TailWeights
public import proofs.«01_k».proof.Proof.Gen.KernelIdeal.Frame

@[expose] public section

set_option maxRecDepth 16384

noncomputable section

open Idealize.ShloMosaic Idealize.ShloMosaic.ValueIdx Idealize.ShloMosaic.TcCoe Idealize.SL.Sem

namespace Cert.KernelIdeal.Value

open Cert.KernelIdeal Cert.KernelIdeal.Gen

/-- The capped logit (over 30) of row `r` and column `q` of the tile, from the unpacked weights. -/
def tailT (x : S3072x6144.Idx → EReal) (wb : S512x6144.Idx → EReal) (r : Fin 3072) (q : Fin 512) : EReal :=
  capped (∑ k : Fin 6144, x (ix2 r k) * wb (ix2 q k))

/-- What the body leaves in the sums, over `old`. -/
def tailSums (x : S3072x6144.Idx → EReal) (wb : S512x6144.Idx → EReal) (old : S3072x128.Idx → EReal) :
    S3072x128.Idx → EReal := fun j => addSum (old j) (tailT x wb (j 0)) (j 1)

/-- The target of row and lane `j`, relative to the first vocabulary index of the tail tile `i`. -/
def tailRel (i : grid2.Coords) (tg : BitVec 32) : BitVec 32 :=
  Scalar.subi tg (Scalar.addi 5120#32 (Scalar.muli (BitVec.ofNat 32 (i 0).val) 512#32))

/-- What the body leaves in the picks, over `old`. -/
def tailPicks (i : grid2.Coords) (x : S3072x6144.Idx → EReal) (wb : S512x6144.Idx → EReal)
    (tg : S3072x128.Idx → BitVec 32) (old : S3072x128.Idx → EReal) : S3072x128.Idx → EReal :=
  fun j => addPick (old j) (tailRel i (tg j)) (tailT x wb (j 0)) (j 1)

/-- The tile of capped logits at `(r, q)`, whatever rows `a` holds. -/
theorem k2_pay164_apply (a wb : FVec Ideal S512x6144 .bf16) (r q : Fin 512) :
    k2_pay164 (F := Ideal) a wb (ix2 r q) = capped (∑ k : Fin 6144, a (ix2 r k) * wb (ix2 q k)) := by
  unfold k2_pay164
  simp only [shapeCast_self]
  show Ideal.tanh (matmul (F := Ideal) _ none _ _ _ (ix2 r q) * _) = _
  rw [product_apply]
  rfl

/-- The tile of exponentials at `(r, q)`. -/
theorem k2_pay165_apply (a wb : FVec Ideal S512x6144 .bf16) (r q : Fin 512) :
    k2_pay165 (F := Ideal) a wb (ix2 r q) = expd (capped (∑ k : Fin 6144, a (ix2 r k) * wb (ix2 q k))) := by
  unfold k2_pay165
  show Ideal.exp2 (k2_pay164 (F := Ideal) a wb (ix2 r q) * Named.named (F := Ideal) κ "softcap_log2e" (φ := .f32) 0x422D1F97#32) = _
  rw [k2_pay164_apply, show Named.named (F := Ideal) κ "softcap_log2e" (φ := .f32) 0x422D1F97#32 = ((30 * (Real.log 2)⁻¹ : ℝ) : EReal)
    from IdealRules.named_const.ideal_named_scalar _ _ _ _ rfl]
  rfl

/-- One block of 512 rows, the sums: rows `o ..` of the accumulator become `tailSums` there. -/
theorem tail_sum_block (o : Nat) (ho : o + 512 ≤ 3072) (inx) (inb) (x : Vec Ideal S3072x6144 .bf16) (wb : Vec Ideal S512x6144 .bf16)
    (old : Vec Ideal S3072x128 .f32) (j : S512x128.Idx) :
    k2_pay169 (k2_pay165 (View.ld x (Rect.unit (s := S3072x6144) ![o, 0] S512x6144.size inx)) wb)
        (k2_pay167 (View.ld x (Rect.unit (s := S3072x6144) ![o, 0] S512x6144.size inx)) wb
          (View.ld old (Rect.unit (s := S3072x128) ![o, 0] S512x128.size inb))) j
      = tailSums x wb old ((Rect.unit (s := S3072x128) ![o, 0] S512x128.size inb).emb j) := by
  obtain ⟨r, l, rfl⟩ : ∃ r : Fin 512, ∃ l : Fin 128, j = ix2 r l := ⟨_, _, eq_ix2 j⟩
  rw [rows_emb o ho inb r l]
  have hx : ∀ k, View.ld x (Rect.unit (s := S3072x6144) ![o, 0] S512x6144.size inx) (ix2 r k) = x (ix2 (rowAt o ho r) k) :=
    fun k => rows_apply x o ho inx r k
  have hold : View.ld old (Rect.unit (s := S3072x128) ![o, 0] S512x128.size inb) (ix2 r l) = old (ix2 (rowAt o ho r) l) :=
    rows_apply old o ho inb r l
  generalize View.ld x (Rect.unit (s := S3072x6144) ![o, 0] S512x6144.size inx) = a at hx ⊢
  generalize View.ld old (Rect.unit (s := S3072x128) ![o, 0] S512x128.size inb) = b at hold ⊢
  unfold k2_pay169 k2_pay167
  simp only [shapeCast_self, addf_apply, slice0, slice1, slice2, slice3, k2_pay165_apply, hx, hold]
  rfl

/-- One block of 512 rows, the picks: rows `o ..` of the accumulator become `tailPicks` there. -/
theorem tail_pick_block (i : grid2.Coords) (o : Nat) (ho : o + 512 ≤ 3072) (inx) (inb) (x : Vec Ideal S3072x6144 .bf16)
    (wb : Vec Ideal S512x6144 .bf16) (tg : Vec Ideal S3072x128 .i32) (old : Vec Ideal S3072x128 .f32) (j : S512x128.Idx) :
    k2_pay170 (k2_pay163 (F := Ideal) (BitVec.ofNat 32 (i 0).val) (View.ld tg (Rect.unit (s := S3072x128) ![o, 0] S512x128.size inb)))
        (k2_pay164 (View.ld x (Rect.unit (s := S3072x6144) ![o, 0] S512x6144.size inx)) wb)
        (iota Kind.tc S512x128 32 [1] iota_S512x128_d1_w32)
        (k2_pay166 (View.ld old (Rect.unit (s := S3072x128) ![o, 0] S512x128.size inb))) k2_pay168 j
      = tailPicks i x wb tg old ((Rect.unit (s := S3072x128) ![o, 0] S512x128.size inb).emb j) := by
  obtain ⟨r, l, rfl⟩ : ∃ r : Fin 512, ∃ l : Fin 128, j = ix2 r l := ⟨_, _, eq_ix2 j⟩
  rw [rows_emb o ho inb r l]
  have hi : iota Kind.tc S512x128 32 [1] iota_S512x128_d1_w32 (ix2 r l) = BitVec.ofNat 32 l.val := by simp [iota]
  have h0 : Scalar.ofBits (F := Ideal) .f32 0x00000000#32 = (0 : EReal) := by
    show Ideal.ofBits .f32 0x00000000#32 = 0; simp
  have hx : ∀ k, View.ld x (Rect.unit (s := S3072x6144) ![o, 0] S512x6144.size inx) (ix2 r k) = x (ix2 (rowAt o ho r) k) :=
    fun k => rows_apply x o ho inx r k
  have hold : View.ld old (Rect.unit (s := S3072x128) ![o, 0] S512x128.size inb) (ix2 r l) = old (ix2 (rowAt o ho r) l) :=
    rows_apply old o ho inb r l
  have htg : View.ld tg (Rect.unit (s := S3072x128) ![o, 0] S512x128.size inb) (ix2 r l) = tg (ix2 (rowAt o ho r) l) :=
    rows_apply tg o ho inb r l
  generalize View.ld x (Rect.unit (s := S3072x6144) ![o, 0] S512x6144.size inx) = a at hx ⊢
  generalize View.ld old (Rect.unit (s := S3072x128) ![o, 0] S512x128.size inb) = b at hold ⊢
  generalize View.ld tg (Rect.unit (s := S3072x128) ![o, 0] S512x128.size inb) = g at htg ⊢
  unfold k2_pay170 k2_pay166 k2_pay163 k2_pay168
  simp only [shapeCast_self, addf_apply, select_apply, slice0, slice1, slice2, slice3, k2_pay164_apply, hx, hold, broadcast_apply, h0]
  unfold tailPicks addPick tailT hit
  simp only [← hi]
  unfold cmpi addi subi
  simp only [htg, broadcast_apply]
  rfl

/-! ## What the body leaves at a point -/

section Point

variable (c : Dev nD) (i : grid2.Coords) (arg1 : Memref sig .tc .vmem S3072x6144 .bf16) (harg1 : arg1.IsWhole)
  (arg2 : Memref sig .tc .vmem S512x3072 .i8) (harg2 : arg2.IsWhole) (arg3 : Memref sig .tc .vmem S512x48 .bf16) (harg3 : arg3.IsWhole)
  (arg4 : Memref sig .tc .vmem S3072x128 .i32) (harg4 : arg4.IsWhole) (arg5 : Memref sig .tc .vmem S3072x128 .f32) (harg5 : arg5.IsWhole)
  (arg6 : Memref sig .tc .vmem S3072x128 .f32) (harg6 : arg6.IsWhole) (arg7 : Memref sig .tc .vmem S512x6144 .bf16) (harg7 : arg7.IsWhole)
  (x0 : Vec Ideal S3072x6144 .bf16) (x1 : Vec Ideal S512x3072 .i8) (x2 : Vec Ideal S512x48 .bf16) (x3 : Vec Ideal S3072x128 .i32)
  (xo4 xo5 : Vec Ideal S3072x128 .f32)

/-- Past the first point, the sums: `tailSums` over what they held. -/
theorem tail_B_4 (hc : ¬cond2_0 i) :
    out2_B_4 c i arg1 harg1 arg2 harg2 arg3 harg3 arg4 harg4 arg5 harg5 arg6 harg6 arg7 harg7 hc x0 x1 x2 x3 xo4 xo5 = tailSums x0 (tailW x1 x2) xo4 := by
  unfold out2_B_4
  rw [View.read_writes_eq_canon _ _ _ (cover2_B_4 c i arg1 harg1 arg2 harg2 arg3 harg3 arg4 harg4 arg5 harg5 arg6 harg6 arg7 harg7 hc x0 x1 x2 x3 xo4 xo5)]
  unfold kernelRun2_B
  dsimp only
  sl_unfold_words
  simp (disch := decide) only [↓View.readCov_skip, ↓View.readCov_fill, View.readAt_eq_ld, harg1.read_unread, harg2.read_unread, harg3.read_unread, harg4.read_unread, harg5.read_unread,
    harg6.read_unread]
  rw [scratch_eq (v := arg7.view) x1 x2]
  rotate_left
  · repeat refine ⟨high_block x1 x2 _ _ _ _ _ _ _ _ _ _ _ (by decide) (by decide) (by decide) (by decide),
      low_block x1 x2 _ _ _ _ _ _ _ _ _ _ _ (by decide) (by decide) (by decide) (by decide), ?_⟩
    exact trivial
  · exact View.cover_of_tiledL (s := S512x6144) _ ![512, 128] (by sl_kernel_rfl)
  funext y
  refine View.canon_apply_of_pieces (Val := Elt Ideal) (e := .f32) (tailSums x0 (tailW x1 x2) xo4) _ ?_ y ?_
  swap
  · exact View.cover_of_tiledL (s := S3072x128) _ ![512, 128] (by sl_kernel_rfl) y
  exact View.PiecesOf.mem ⟨tail_sum_block 2560 (by omega) inb_S3072x6144_S512x6144_2560_0 inb_S3072x128_S512x128_2560_0 _ _ xo4,
    tail_sum_block 2048 (by omega) inb_S3072x6144_S512x6144_2048_0 inb_S3072x128_S512x128_2048_0 _ _ xo4,
    tail_sum_block 1536 (by omega) inb_S3072x6144_S512x6144_1536_0 inb_S3072x128_S512x128_1536_0 _ _ xo4,
    tail_sum_block 1024 (by omega) inb_S3072x6144_S512x6144_1024_0 inb_S3072x128_S512x128_1024_0 _ _ xo4,
    tail_sum_block 512 (by omega) inb_S3072x6144_S512x6144_512_0 inb_S3072x128_S512x128_512_0 _ _ xo4,
    tail_sum_block 0 (by omega) inb_S3072x6144_S512x6144_0_0 inb_S3072x128_S512x128_0_0 _ _ xo4, trivial⟩

/-- Past the first point, the picks: `tailPicks` over what they held. -/
theorem tail_B_5 (hc : ¬cond2_0 i) :
    out2_B_5 c i arg1 harg1 arg2 harg2 arg3 harg3 arg4 harg4 arg5 harg5 arg6 harg6 arg7 harg7 hc x0 x1 x2 x3 xo4 xo5 = tailPicks i x0 (tailW x1 x2) x3 xo5 := by
  unfold out2_B_5
  rw [View.read_writes_eq_canon _ _ _ (cover2_B_5 c i arg1 harg1 arg2 harg2 arg3 harg3 arg4 harg4 arg5 harg5 arg6 harg6 arg7 harg7 hc x0 x1 x2 x3 xo4 xo5)]
  unfold kernelRun2_B
  dsimp only
  sl_unfold_words
  simp (disch := decide) only [↓View.readCov_skip, ↓View.readCov_fill, View.readAt_eq_ld, harg1.read_unread, harg2.read_unread, harg3.read_unread, harg4.read_unread, harg5.read_unread,
    harg6.read_unread]
  rw [scratch_eq (v := arg7.view) x1 x2]
  rotate_left
  · repeat refine ⟨high_block x1 x2 _ _ _ _ _ _ _ _ _ _ _ (by decide) (by decide) (by decide) (by decide),
      low_block x1 x2 _ _ _ _ _ _ _ _ _ _ _ (by decide) (by decide) (by decide) (by decide), ?_⟩
    exact trivial
  · exact View.cover_of_tiledL (s := S512x6144) _ ![512, 128] (by sl_kernel_rfl)
  funext y
  refine View.canon_apply_of_pieces (Val := Elt Ideal) (e := .f32) (tailPicks i x0 (tailW x1 x2) x3 xo5) _ ?_ y ?_
  swap
  · exact View.cover_of_tiledL (s := S3072x128) _ ![512, 128] (by sl_kernel_rfl) y
  exact View.PiecesOf.mem ⟨tail_pick_block i 2560 (by omega) inb_S3072x6144_S512x6144_2560_0 inb_S3072x128_S512x128_2560_0 _ _ _ xo5,
    tail_pick_block i 2048 (by omega) inb_S3072x6144_S512x6144_2048_0 inb_S3072x128_S512x128_2048_0 _ _ _ xo5,
    tail_pick_block i 1536 (by omega) inb_S3072x6144_S512x6144_1536_0 inb_S3072x128_S512x128_1536_0 _ _ _ xo5,
    tail_pick_block i 1024 (by omega) inb_S3072x6144_S512x6144_1024_0 inb_S3072x128_S512x128_1024_0 _ _ _ xo5,
    tail_pick_block i 512 (by omega) inb_S3072x6144_S512x6144_512_0 inb_S3072x128_S512x128_512_0 _ _ _ xo5,
    tail_pick_block i 0 (by omega) inb_S3072x6144_S512x6144_0_0 inb_S3072x128_S512x128_0_0 _ _ _ xo5, trivial⟩

/-- At the point that clears them, the sums: `tailSums` over zero. -/
theorem tail_A_4 (hc : cond2_0 i) :
    out2_A_4 c i arg1 harg1 arg2 harg2 arg3 harg3 arg4 harg4 arg5 harg5 arg6 harg6 arg7 harg7 hc x0 x1 x2 x3 = tailSums x0 (tailW x1 x2) (k2_pay2 (F := Ideal)) := by
  unfold out2_A_4
  rw [View.read_writes_eq_canon _ _ _ (cover2_A_4 c i arg1 harg1 arg2 harg2 arg3 harg3 arg4 harg4 arg5 harg5 arg6 harg6 arg7 harg7 hc x0 x1 x2 x3)]
  unfold kernelRun2_A
  dsimp only
  sl_unfold_words
  simp (disch := decide) only [↓View.readCov_skip, ↓View.readCov_fill, View.readAt_eq_ld, harg1.read_unread, harg2.read_unread, harg3.read_unread, harg4.read_unread, harg5.read_unread,
    harg6.read_unread]
  rw [scratch_eq (v := arg7.view) x1 x2]
  rotate_left
  · repeat refine ⟨high_block x1 x2 _ _ _ _ _ _ _ _ _ _ _ (by decide) (by decide) (by decide) (by decide),
      low_block x1 x2 _ _ _ _ _ _ _ _ _ _ _ (by decide) (by decide) (by decide) (by decide), ?_⟩
    exact trivial
  · exact View.cover_of_tiledL (s := S512x6144) _ ![512, 128] (by sl_kernel_rfl)
  funext y
  refine View.canon_append_of_piecesOf (Val := Elt Ideal) (e := .f32) (tailSums x0 (tailW x1 x2) (k2_pay2 (F := Ideal))) [_] [_, _, _, _, _, _] ?_ y ?_
  swap
  · exact View.cover_of_tiledL (s := S3072x128) _ ![512, 128] (by sl_kernel_rfl) y
  exact ⟨tail_sum_block 2560 (by omega) inb_S3072x6144_S512x6144_2560_0 inb_S3072x128_S512x128_2560_0 _ _ (k2_pay2 (F := Ideal)),
    tail_sum_block 2048 (by omega) inb_S3072x6144_S512x6144_2048_0 inb_S3072x128_S512x128_2048_0 _ _ (k2_pay2 (F := Ideal)),
    tail_sum_block 1536 (by omega) inb_S3072x6144_S512x6144_1536_0 inb_S3072x128_S512x128_1536_0 _ _ (k2_pay2 (F := Ideal)),
    tail_sum_block 1024 (by omega) inb_S3072x6144_S512x6144_1024_0 inb_S3072x128_S512x128_1024_0 _ _ (k2_pay2 (F := Ideal)),
    tail_sum_block 512 (by omega) inb_S3072x6144_S512x6144_512_0 inb_S3072x128_S512x128_512_0 _ _ (k2_pay2 (F := Ideal)),
    tail_sum_block 0 (by omega) inb_S3072x6144_S512x6144_0_0 inb_S3072x128_S512x128_0_0 _ _ (k2_pay2 (F := Ideal)), trivial⟩

/-- At the point that clears them, the picks: `tailPicks` over zero. -/
theorem tail_A_5 (hc : cond2_0 i) :
    out2_A_5 c i arg1 harg1 arg2 harg2 arg3 harg3 arg4 harg4 arg5 harg5 arg6 harg6 arg7 harg7 hc x0 x1 x2 x3 = tailPicks i x0 (tailW x1 x2) x3 (k2_pay3 (F := Ideal)) := by
  unfold out2_A_5
  rw [View.read_writes_eq_canon _ _ _ (cover2_A_5 c i arg1 harg1 arg2 harg2 arg3 harg3 arg4 harg4 arg5 harg5 arg6 harg6 arg7 harg7 hc x0 x1 x2 x3)]
  unfold kernelRun2_A
  dsimp only
  sl_unfold_words
  simp (disch := decide) only [↓View.readCov_skip, ↓View.readCov_fill, View.readAt_eq_ld, harg1.read_unread, harg2.read_unread, harg3.read_unread, harg4.read_unread, harg5.read_unread,
    harg6.read_unread]
  rw [scratch_eq (v := arg7.view) x1 x2]
  rotate_left
  · repeat refine ⟨high_block x1 x2 _ _ _ _ _ _ _ _ _ _ _ (by decide) (by decide) (by decide) (by decide),
      low_block x1 x2 _ _ _ _ _ _ _ _ _ _ _ (by decide) (by decide) (by decide) (by decide), ?_⟩
    exact trivial
  · exact View.cover_of_tiledL (s := S512x6144) _ ![512, 128] (by sl_kernel_rfl)
  funext y
  refine View.canon_append_of_piecesOf (Val := Elt Ideal) (e := .f32) (tailPicks i x0 (tailW x1 x2) x3 (k2_pay3 (F := Ideal))) [_] [_, _, _, _, _, _] ?_ y ?_
  swap
  · exact View.cover_of_tiledL (s := S3072x128) _ ![512, 128] (by sl_kernel_rfl) y
  exact ⟨tail_pick_block i 2560 (by omega) inb_S3072x6144_S512x6144_2560_0 inb_S3072x128_S512x128_2560_0 _ _ _ (k2_pay3 (F := Ideal)),
    tail_pick_block i 2048 (by omega) inb_S3072x6144_S512x6144_2048_0 inb_S3072x128_S512x128_2048_0 _ _ _ (k2_pay3 (F := Ideal)),
    tail_pick_block i 1536 (by omega) inb_S3072x6144_S512x6144_1536_0 inb_S3072x128_S512x128_1536_0 _ _ _ (k2_pay3 (F := Ideal)),
    tail_pick_block i 1024 (by omega) inb_S3072x6144_S512x6144_1024_0 inb_S3072x128_S512x128_1024_0 _ _ _ (k2_pay3 (F := Ideal)),
    tail_pick_block i 512 (by omega) inb_S3072x6144_S512x6144_512_0 inb_S3072x128_S512x128_512_0 _ _ _ (k2_pay3 (F := Ideal)),
    tail_pick_block i 0 (by omega) inb_S3072x6144_S512x6144_0_0 inb_S3072x128_S512x128_0_0 _ _ _ (k2_pay3 (F := Ideal)), trivial⟩

end Point

end Cert.KernelIdeal.Value

end
-- ==== Proof.TailArray.lean ====
/-
  The tail tier across its grid: what the two arrays hold when its last point is done. Row `r`, lane `l` of the sums is the
  sum of the exponentials of the row's capped logits at the vocabulary indices of that lane; of the picks, the capped
  logit at the target if the target's lane is `l`.
-/
module

public import proofs.«01_k».proof.Proof.TailTile
public import proofs.«01_k».proof.Proof.Accum

@[expose] public section

set_option maxRecDepth 16384

noncomputable section

open Idealize.ShloMosaic Idealize.ShloMosaic.ValueIdx Idealize.ShloMosaic.TcCoe Idealize.SL.Sem
open Idealize.ShloMosaic.Pipeline (Dat Cfg Window cellOf)

namespace Cert.KernelIdeal.Value

open Cert.KernelIdeal Cert.KernelIdeal.Gen

/-- The tail's weight at vocabulary index `n` and permuted channel `k`: the low number of its byte in the first 128 channels
    of every 256, the high one in the others, times the scale. -/
def tailWeight (W : S60416x3072.Idx → BitVec 8) (S : S60416x48.Idx → EReal) (n : Fin 60416) (k : Fin 6144) : EReal :=
  (if k.val % 256 < 128 then lowNum (W (ix2 n (byteCol k))) else highNum (W (ix2 n (byteCol k)))) * S (ix2 n (scaleCol k))

/-- The capped logit (over 30) of row `r` at the tail's vocabulary index `n`: the product over the permuted channels. -/
def tailLogit (X : S3072x6144.Idx → EReal) (W : S60416x3072.Idx → BitVec 8) (S : S60416x48.Idx → EReal) (r : Fin 3072) (n : Fin 60416) : EReal :=
  capped (∑ k : Fin 6144, X (ix2 r k) * tailWeight W S n k)

/-- The vocabulary index (in the tier) of column `q` of tile `v`. -/
def tailCol (v : Nat) (q : Fin 512) : Fin 60416 := ⟨(512 * v + q.val) % 60416, Nat.mod_lt _ (by decide)⟩

variable (V : (c : Dev nD) → (b : Ref sig .tc) → Buf (Elt Ideal) ((c : Thread nD τ).loc b)) (c : Dev nD)

/-- The rows' block is the whole array at every point. -/
theorem tail_x (t : Fin cfg2.N) (r : Fin 3072) (k : Fin 6144) :
    (iblk2 V c 0 t : Vec Ideal S3072x6144 .bf16) (ix2 r k) = (V c main_v17 : S3072x6144.Idx → EReal) (ix2 r k) := by
  have hi : win2_0.index t 0 = 0 ∧ win2_0.index t 1 = 0 := by revert t; decide +kernel
  unfold iblk2
  rw [View.read_apply]
  show V c main_v17 _ = V c main_v17 _
  congr 1
  funext a
  apply Fin.ext
  match a with
  | ⟨0, _⟩ => show win2_0.index t 0 * 3072 + 1 * r.val = r.val; rw [hi.1]; omega
  | ⟨1, _⟩ => show win2_0.index t 1 * 6144 + 1 * k.val = k.val; rw [hi.2]; omega

/-- The weights' block at point `t`: rows `512 t ..` of the weights. -/
theorem tail_w (t : Fin cfg2.N) (q : Fin 512) (k : Fin 3072) :
    (iblk2 V c 1 t : Vec Ideal S512x3072 .i8) (ix2 q k) = (V c main_arg3 : S60416x3072.Idx → BitVec 8) (ix2 (tailCol t.val q) k) := by
  have hi : win2_1.index t 0 = t.val ∧ win2_1.index t 1 = 0 := by revert t; decide +kernel
  have ht : t.val < 118 := lt_of_lt_of_eq t.isLt N_2
  unfold iblk2
  rw [View.read_apply]
  show V c main_arg3 _ = V c main_arg3 _
  congr 1
  funext a
  apply Fin.ext
  match a with
  | ⟨0, _⟩ => show win2_1.index t 0 * 512 + 1 * q.val = (512 * t.val + q.val) % 60416; rw [hi.1]; omega
  | ⟨1, _⟩ => show win2_1.index t 1 * 3072 + 1 * k.val = k.val; rw [hi.2]; omega

/-- The scales' block at point `t`: rows `512 t ..` of the scales. -/
theorem tail_s (t : Fin cfg2.N) (q : Fin 512) (k : Fin 48) :
    (iblk2 V c 2 t : Vec Ideal S512x48 .bf16) (ix2 q k) = (V c main_arg4 : S60416x48.Idx → EReal) (ix2 (tailCol t.val q) k) := by
  have hi : win2_2.index t 0 = t.val ∧ win2_2.index t 1 = 0 := by revert t; decide +kernel
  have ht : t.val < 118 := lt_of_lt_of_eq t.isLt N_2
  unfold iblk2
  rw [View.read_apply]
  show V c main_arg4 _ = V c main_arg4 _
  congr 1
  funext a
  apply Fin.ext
  match a with
  | ⟨0, _⟩ => show win2_2.index t 0 * 512 + 1 * q.val = (512 * t.val + q.val) % 60416; rw [hi.1]; omega
  | ⟨1, _⟩ => show win2_2.index t 1 * 48 + 1 * k.val = k.val; rw [hi.2]; omega

/-- The targets' block is the whole array at every point. -/
theorem tail_tg (t : Fin cfg2.N) (j : S3072x128.Idx) :
    (iblk2 V c 3 t : Vec Ideal S3072x128 .i32) j = (V c main_v19 : S3072x128.Idx → BitVec 32) j := by
  have hi : win2_3.index t 0 = 0 ∧ win2_3.index t 1 = 0 := by revert t; decide +kernel
  unfold iblk2
  rw [View.read_apply]
  show V c main_v19 _ = V c main_v19 _
  congr 1
  funext a
  apply Fin.ext
  match a with
  | ⟨0, _⟩ => show win2_3.index t 0 * 3072 + 1 * (j 0).val = (j 0).val; rw [hi.1]; omega
  | ⟨1, _⟩ => show win2_3.index t 1 * 128 + 1 * (j 1).val = (j 1).val; rw [hi.2]; omega

/-- The tile of point `t`, in terms of the arrays. -/
theorem tail_tile (t : Fin cfg2.N) (r : Fin 3072) :
    tailT (iblk2 V c 0 t) (tailW (iblk2 V c 1 t) (iblk2 V c 2 t)) r = fun q => tailLogit (V c main_v17) (V c main_arg3) (V c main_arg4) r (tailCol t.val q) := by
  have hw : ∀ (q : Fin 512) (k : Fin 6144), tailW (iblk2 V c 1 t) (iblk2 V c 2 t) (ix2 q k)
      = tailWeight (V c main_arg3) (V c main_arg4) (tailCol t.val q) k := by
    intro q k
    show tailWAt (iblk2 V c 1 t) (iblk2 V c 2 t) q k = _
    unfold tailWAt tailWeight
    rw [tail_s, tail_w]
  funext q
  unfold tailT tailLogit
  simp only [tail_x, hw]

/-- The tiles of row `r`, by their number. -/
def tailTiles (r : Fin 3072) (v : Nat) (q : Fin 512) : EReal := tailLogit (V c main_v17) (V c main_arg3) (V c main_arg4) r (tailCol v q)

/-- One point's step, in terms of the arrays: the tile is the point's, the target relative to the tile's first index. -/
theorem tail_step (t : Fin cfg2.N) (old old' : S3072x128.Idx → EReal) :
    tailSums (iblk2 V c 0 t) (tailW (iblk2 V c 1 t) (iblk2 V c 2 t)) old = (fun j => addSum (old j) (tailTiles V c (j 0) t.val) (j 1))
    ∧ tailPicks (grid2.coords t) (iblk2 V c 0 t) (tailW (iblk2 V c 1 t) (iblk2 V c 2 t)) (iblk2 V c 3 t) old'
      = fun j => addPick (old' j) (relTo (BitVec.ofNat 32 5120) t.val ((V c main_v19 : S3072x128.Idx → BitVec 32) j)) (tailTiles V c (j 0) t.val) (j 1) := by
  have hg : (grid2.coords t 0).val = t.val := by revert t; decide +kernel
  constructor
  · funext j
    obtain ⟨r, l, rfl⟩ : ∃ r : Fin 3072, ∃ l : Fin 128, j = ix2 r l := ⟨_, _, eq_ix2 j⟩
    exact congrArg (fun T => addSum (old (ix2 r l)) T l) (tail_tile V c t r)
  · funext j
    obtain ⟨r, l, rfl⟩ : ∃ r : Fin 3072, ∃ l : Fin 128, j = ix2 r l := ⟨_, _, eq_ix2 j⟩
    refine (congrArg (fun T => addPick (old' (ix2 r l)) (tailRel (grid2.coords t) (iblk2 V c 3 t (ix2 r l))) T l) (tail_tile V c t r)).trans ?_
    rw [tail_tg]
    unfold tailRel
    rw [hg]
    rfl

/-- What the two staging buffers hold after point `n`: the accumulations over the tiles `0 .. n`. -/
theorem tail_outs : ∀ (n : Nat) (hn : n < cfg2.N), outsAt2 V c n hn
    = (fun j => accSum (tailTiles V c (j 0)) (j 1) n,
       fun j => accPick (BitVec.ofNat 32 5120) ((V c main_v19 : S3072x128.Idx → BitVec 32) j) (tailTiles V c (j 0)) (j 1) n)
  | 0, hn => by
    have hz0 : ∀ j, k2_pay2 (F := Ideal) j = (0 : EReal) := fun j => by show Ideal.ofBits .f32 0x00000000#32 = 0; simp
    have hz1 : ∀ j, k2_pay3 (F := Ideal) j = (0 : EReal) := fun j => by show Ideal.ofBits .f32 0x00000000#32 = 0; simp
    refine (outsAt2_A V c ⟨0, hn⟩ rfl).trans ?_
    rw [tail_A_4, tail_A_5, (tail_step V c ⟨0, hn⟩ _ (k2_pay3 (F := Ideal))).1, (tail_step V c ⟨0, hn⟩ (k2_pay2 (F := Ideal)) _).2]
    simp only [hz0, hz1]
    rfl
  | n + 1, hn => by
    have hN : cfg2.N = 118 := N_2
    have hB : ¬(⟨n + 1, hn⟩ : Fin cfg2.N).val % 118 = 0 := by dsimp only; omega
    refine (outsAt2_B V c ⟨n + 1, hn⟩ hB).trans ?_
    rw [tail_B_4, tail_B_5, (tail_step V c ⟨n + 1, hn⟩ _ (k2_pay3 (F := Ideal))).1, (tail_step V c ⟨n + 1, hn⟩ (k2_pay2 (F := Ideal)) _).2]
    have ih := tail_outs n (Nat.lt_of_succ_lt hn)
    refine Prod.ext (funext fun j => ?_) (funext fun j => ?_)
    · show addSum ((outsAt2 V c n _).1 j) _ _ = addSum _ _ _
      rw [ih]
    · show addPick ((outsAt2 V c n _).2 j) _ _ _ = addPick _ _ _ _
      rw [ih]

/-- The last point. -/
abbrev tailLast : Fin cfg2.N := ⟨117, by rw [show cfg2.N = 118 from N_2]; decide⟩

/-- The sums the tier ends with. -/
def tailSumsEnd (j : S3072x128.Idx) : EReal := accSum (tailTiles V c (j 0)) (j 1) 117

/-- The picks the tier ends with. -/
def tailPicksEnd (j : S3072x128.Idx) : EReal :=
  accPick (BitVec.ofNat 32 5120) ((V c main_v19 : S3072x128.Idx → BitVec 32) j) (tailTiles V c (j 0)) (j 1) 117

/-- The one write-back of the sums, at the last point, writes them. -/
theorem tail_flushed_4 (t : Fin cfg2.N) (hf : (cfg2.win 4).flush t = true) :
    (dat2 V c).flushed 4 t = ((cfg2.win 4).blk t).view.read (Elt Ideal) ((tailSumsEnd V c : S3072x128.Idx → EReal) : Buf (Elt Ideal) ((c : Thread nD τ).loc main_v22_0)) := by
  have h9 : t.val = 117 := by have := (flush2_4 t).mp hf; have := lt_of_lt_of_eq t.isLt N_2; omega
  show (cfg2.win 4).cut (grid2.coords t) ((dat2 V c).after 4 t) = _
  rw [after2_4, tail_outs]
  have hz' : (fun a => win2_4.index t a * main_v22_0.ty.shape.size a) = fun _ => 0 := by
    revert t; decide +kernel
  refine Eq.trans ?_ (Memref.read_access_unit_zero (Elt Ideal) main_v22_0 hz' (fun a => by rw [congrFun hz' a]; simp) (tailSumsEnd V c)).symm
  dsimp only
  rw [h9]
  rfl

/-- So the array of the sums ends holding them. -/
theorem tail_final_4 : (dat2 V c).arrAt 4 cfg2.N = ((tailSumsEnd V c : S3072x128.Idx → EReal) : Buf (Elt Ideal) ((c : Thread nD τ).loc main_v22_0)) :=
  (dat2 V c).arrAt_eq_of_cover 4 _ (tail_flushed_4 V c) fun i =>
    ⟨tailLast, (flush2_4 tailLast).mpr rfl, by
      show i ∈ ((View.whole main_v22_0).slice (win2_4.rect tailLast)).set
      rw [View.set_slice_whole, Rect.mem_set_unit]
      intro a
      have h0 : (i 0 : Nat) < 3072 := (i 0).isLt
      have h1 : (i 1 : Nat) < 128 := (i 1).isLt
      match a with
      | ⟨0, _⟩ => show win2_4.index tailLast 0 * win2_4.size 0 ≤ (i 0 : Nat) ∧ (i 0 : Nat) < win2_4.index tailLast 0 * win2_4.size 0 + win2_4.xsize (grid2.coords tailLast) 0
                  rw [show win2_4.index tailLast 0 * win2_4.size 0 = 0 from by decide +kernel, show win2_4.xsize (grid2.coords tailLast) 0 = 3072 from by decide +kernel]; omega
      | ⟨1, _⟩ => show win2_4.index tailLast 1 * win2_4.size 1 ≤ (i 1 : Nat) ∧ (i 1 : Nat) < win2_4.index tailLast 1 * win2_4.size 1 + win2_4.xsize (grid2.coords tailLast) 1
                  rw [show win2_4.index tailLast 1 * win2_4.size 1 = 0 from by decide +kernel, show win2_4.xsize (grid2.coords tailLast) 1 = 128 from by decide +kernel]; omega⟩

/-- The one write-back of the picks, at the last point, writes them. -/
theorem tail_flushed_5 (t : Fin cfg2.N) (hf : (cfg2.win 5).flush t = true) :
    (dat2 V c).flushed 5 t = ((cfg2.win 5).blk t).view.read (Elt Ideal) ((tailPicksEnd V c : S3072x128.Idx → EReal) : Buf (Elt Ideal) ((c : Thread nD τ).loc main_v22_1)) := by
  have h9 : t.val = 117 := by have := (flush2_5 t).mp hf; have := lt_of_lt_of_eq t.isLt N_2; omega
  show (cfg2.win 5).cut (grid2.coords t) ((dat2 V c).after 5 t) = _
  rw [after2_5, tail_outs]
  have hz' : (fun a => win2_5.index t a * main_v22_1.ty.shape.size a) = fun _ => 0 := by
    revert t; decide +kernel
  refine Eq.trans ?_ (Memref.read_access_unit_zero (Elt Ideal) main_v22_1 hz' (fun a => by rw [congrFun hz' a]; simp) (tailPicksEnd V c)).symm
  dsimp only
  rw [h9]
  rfl

/-- So the array of the picks ends holding them. -/
theorem tail_final_5 : (dat2 V c).arrAt 5 cfg2.N = ((tailPicksEnd V c : S3072x128.Idx → EReal) : Buf (Elt Ideal) ((c : Thread nD τ).loc main_v22_1)) :=
  (dat2 V c).arrAt_eq_of_cover 5 _ (tail_flushed_5 V c) fun i =>
    ⟨tailLast, (flush2_5 tailLast).mpr rfl, by
      show i ∈ ((View.whole main_v22_1).slice (win2_5.rect tailLast)).set
      rw [View.set_slice_whole, Rect.mem_set_unit]
      intro a
      have h0 : (i 0 : Nat) < 3072 := (i 0).isLt
      have h1 : (i 1 : Nat) < 128 := (i 1).isLt
      match a with
      | ⟨0, _⟩ => show win2_5.index tailLast 0 * win2_5.size 0 ≤ (i 0 : Nat) ∧ (i 0 : Nat) < win2_5.index tailLast 0 * win2_5.size 0 + win2_5.xsize (grid2.coords tailLast) 0
                  rw [show win2_5.index tailLast 0 * win2_5.size 0 = 0 from by decide +kernel, show win2_5.xsize (grid2.coords tailLast) 0 = 3072 from by decide +kernel]; omega
      | ⟨1, _⟩ => show win2_5.index tailLast 1 * win2_5.size 1 ≤ (i 1 : Nat) ∧ (i 1 : Nat) < win2_5.index tailLast 1 * win2_5.size 1 + win2_5.xsize (grid2.coords tailLast) 1
                  rw [show win2_5.index tailLast 1 * win2_5.size 1 = 0 from by decide +kernel, show win2_5.xsize (grid2.coords tailLast) 1 = 128 from by decide +kernel]; omega⟩

end Cert.KernelIdeal.Value

end
-- ==== Proof.Finish.lean ====
/-
  The last step: from the 128 lanes of the four running arrays to the four columns of results. Row `r` of the results is
  the logarithm of the sum over the lanes of both tiers' sums, the target's log probability, and the logarithm of each
  tier's sum alone.
-/
module

public import proofs.«01_k».proof.Proof.Gen.KernelIdeal.Frame
public import proofs.«01_k».proof.Proof.Tile

@[expose] public section

set_option maxRecDepth 16384

noncomputable section

open Idealize.ShloMosaic Idealize.ShloMosaic.ValueIdx Idealize.ShloMosaic.TcCoe Idealize.SL.Sem
open Idealize.ShloMosaic.Pipeline (Dat Cfg Window cellOf)

namespace Cert.KernelIdeal.Value

open Cert.KernelIdeal Cert.KernelIdeal.Gen

/-- The sum of row `r` over the 128 lanes. -/
def lanes (x : S3072x128.Idx → EReal) (r : Fin 3072) : EReal := ∑ l : Fin 128, x (ix2 r l)

/-- The logarithm of both tiers' sums of row `r`. -/
def finAll (a b : S3072x128.Idx → EReal) (y : S3072x1.Idx) : EReal := Ideal.log (lanes a (y 0) + lanes b (y 0))

/-- The logarithm of one tier's sum of row `r`. -/
def finOne (a : S3072x128.Idx → EReal) (y : S3072x1.Idx) : EReal := Ideal.log (lanes a (y 0))

/-- The target's log probability of row `r`: 30 times the picked value less the logarithm of the sums, or 0 for a negative target. -/
def finPick (a p b q : S3072x128.Idx → EReal) (tg : S3072x1.Idx → BitVec 32) (y : S3072x1.Idx) : EReal :=
  Scalar.select (IntOp.cmpi .sge (tg y) 0#32)
    (Ideal.ofBits .f32 0x41F00000#32 * (∑ l : Fin 128, (p (ix2 (y 0) l) + q (ix2 (y 0) l))) - finAll a b y) 0

/-- A row's sum along the lanes, as a column. -/
theorem rowSum_apply (v : FVec Ideal S3072x128 .f32) (r : Fin 3072) (z : Fin 1) :
    shapeCast S3072x1 (multiReduction (F := Ideal) .add [1] S3072 v 0x00000000#32 reduces_S3072x128_S3072 (.inl rfl) rfl) shapeCasts_S3072_S3072x1 (ix2 r z)
      = ∑ l : Fin 128, v (ix2 r l) := by
  refine (shapeCast_apply _ _ (ix2 r z) (fun a => match a with | ⟨0, _⟩ => r : S3072.Idx)
    (by rw [Shape.rowMajor_val_one, Shape.rowMajor_val_two]; show r.val = r.val * 1 + z.val; omega)).trans ?_
  refine (Ideal.multiReduction_add_single v _ reduces_S3072x128_S3072 (.inl rfl) rfl _).trans ?_
  refine Finset.sum_congr rfl fun l _ => congrArg v ?_
  funext a
  match a with
  | ⟨0, _⟩ => rfl
  | ⟨1, _⟩ => rfl

/-- The payload of one tier's sum. -/
theorem pay1_apply (a : Vec Ideal S3072x128 .f32) (r : Fin 3072) (z : Fin 1) : k3_pay1 (F := Ideal) a (ix2 r z) = lanes a r := by
  unfold k3_pay1
  dsimp only
  rw [rowSum_apply, shapeCast_self]
  rfl

/-- The payload of the other tier's sum. -/
theorem pay2_apply (a : Vec Ideal S3072x128 .f32) (r : Fin 3072) (z : Fin 1) : k3_pay2 (F := Ideal) a (ix2 r z) = lanes a r :=
  pay1_apply a r z

/-- The payload of the logarithm of both. -/
theorem pay3_apply (a b : Vec Ideal S3072x128 .f32) (r : Fin 3072) (z : Fin 1) : k3_pay3 (F := Ideal) a b (ix2 r z) = finAll a b (ix2 r z) := by
  show Ideal.log (k3_pay1 (F := Ideal) a (ix2 r z) + k3_pay2 (F := Ideal) b (ix2 r z)) = _
  rw [pay1_apply, pay2_apply]
  rfl

/-- The payload of the logarithm of one. -/
theorem pay4_apply (a : Vec Ideal S3072x128 .f32) (r : Fin 3072) (z : Fin 1) : k3_pay4 (F := Ideal) a (ix2 r z) = finOne a (ix2 r z) := by
  show Ideal.log (k3_pay1 (F := Ideal) a (ix2 r z)) = _
  rw [pay1_apply]
  rfl

/-- The payload of the log probability. -/
theorem pay6_apply (a p b q : Vec Ideal S3072x128 .f32) (tg : Vec Ideal S3072x1 .i32) (r : Fin 3072) (z : Fin 1) :
    k3_pay6 (F := Ideal) a b p q tg (ix2 r z) = finPick a p b q tg (ix2 r z) := by
  unfold k3_pay6
  dsimp only
  rw [shapeCast_self, shapeCast_self, shapeCast_self]
  show Scalar.select (IntOp.cmpi .sge (tg (ix2 r z)) 0#32)
    (Ideal.ofBits .f32 0x41F00000#32 * (shapeCast S3072x1 (multiReduction (F := Ideal) .add [1] S3072 (addf p q) 0x00000000#32 reduces_S3072x128_S3072 (.inl rfl) rfl) shapeCasts_S3072_S3072x1 (ix2 r z))
      - k3_pay3 (F := Ideal) a b (ix2 r z)) (Ideal.ofBits .f32 0x00000000#32) = _
  rw [rowSum_apply, pay3_apply, show Ideal.ofBits .f32 0x00000000#32 = 0 from by simp]
  rfl

variable (V : (c : Dev nD) → (b : Ref sig .tc) → Buf (Elt Ideal) ((c : Thread nD τ).loc b)) (c : Dev nD)

/-- The one point. -/
abbrev finPoint : Fin cfg3.N := ⟨0, by decide⟩

/-- The block of operand 0 is the whole array. -/
theorem fin_in0 (t : Fin cfg3.N) : (iblk3 V c 0 t : Vec Ideal S3072x128 .f32) = (V c main_v21_0 : S3072x128.Idx → EReal) := by
  have hz' : (fun a => win3_0.index t a * main_v21_0.ty.shape.size a) = fun _ => 0 := by
    revert t; decide +kernel
  exact Memref.read_access_unit_zero (Elt Ideal) main_v21_0 hz' (fun a => by rw [congrFun hz' a]; simp) (V c main_v21_0)

/-- The block of operand 1 is the whole array. -/
theorem fin_in1 (t : Fin cfg3.N) : (iblk3 V c 1 t : Vec Ideal S3072x128 .f32) = (V c main_v21_1 : S3072x128.Idx → EReal) := by
  have hz' : (fun a => win3_1.index t a * main_v21_1.ty.shape.size a) = fun _ => 0 := by
    revert t; decide +kernel
  exact Memref.read_access_unit_zero (Elt Ideal) main_v21_1 hz' (fun a => by rw [congrFun hz' a]; simp) (V c main_v21_1)

/-- The block of operand 2 is the whole array. -/
theorem fin_in2 (t : Fin cfg3.N) : (iblk3 V c 2 t : Vec Ideal S3072x128 .f32) = (V c main_v22_0 : S3072x128.Idx → EReal) := by
  have hz' : (fun a => win3_2.index t a * main_v22_0.ty.shape.size a) = fun _ => 0 := by
    revert t; decide +kernel
  exact Memref.read_access_unit_zero (Elt Ideal) main_v22_0 hz' (fun a => by rw [congrFun hz' a]; simp) (V c main_v22_0)

/-- The block of operand 3 is the whole array. -/
theorem fin_in3 (t : Fin cfg3.N) : (iblk3 V c 3 t : Vec Ideal S3072x128 .f32) = (V c main_v22_1 : S3072x128.Idx → EReal) := by
  have hz' : (fun a => win3_3.index t a * main_v22_1.ty.shape.size a) = fun _ => 0 := by
    revert t; decide +kernel
  exact Memref.read_access_unit_zero (Elt Ideal) main_v22_1 hz' (fun a => by rw [congrFun hz' a]; simp) (V c main_v22_1)

/-- The block of operand 4 is the whole array. -/
theorem fin_in4 (t : Fin cfg3.N) : (iblk3 V c 4 t : Vec Ideal S3072x1 .i32) = (V c main_v23 : S3072x1.Idx → BitVec 32) := by
  have hz' : (fun a => win3_4.index t a * main_v23.ty.shape.size a) = fun _ => 0 := by
    revert t; decide +kernel
  exact Memref.read_access_unit_zero (Elt Ideal) main_v23 hz' (fun a => by rw [congrFun hz' a]; simp) (V c main_v23)

/-- What the point leaves: the logarithms of both tiers' sums. -/
theorem fin_out5 (x0 x1 x2 x3 : Vec Ideal S3072x128 .f32) (x4 : Vec Ideal S3072x1 .i32) : out3_5 (F := Ideal) x0 x1 x2 x3 x4 = finAll x0 x2 := by
  unfold out3_5
  rw [View.canon_unit_zero hz]
  simp only [View.ld_unit_zero (S := S3072x128) hz, View.ld_unit_zero (S := S3072x1) hz]
  funext j
  obtain ⟨r, z, rfl⟩ : ∃ (r : Fin 3072) (z : Fin 1), j = ix2 r z := ⟨j 0, j 1, by funext a; match a with | ⟨0, _⟩ => rfl | ⟨1, _⟩ => rfl⟩
  exact pay3_apply x0 x2 r z

/-- The point writes back the logarithms of both tiers' sums. -/
theorem fin_flushed5 (t : Fin cfg3.N) (hf : (cfg3.win 5).flush t = true) :
    (dat3 V c).flushed 5 t = ((cfg3.win 5).blk t).view.read (Elt Ideal) ((finAll (V c main_v21_0 : S3072x128.Idx → EReal) (V c main_v22_0 : S3072x128.Idx → EReal) : S3072x1.Idx → EReal) : Buf (Elt Ideal) ((c : Thread nD τ).loc main_v24_0)) := by
  show (cfg3.win 5).cut (grid3.coords t) ((dat3 V c).after 5 t) = _
  rw [after3_5, fin_out5, fin_in0, fin_in2]
  have hz' : (fun a => win3_5.index t a * main_v24_0.ty.shape.size a) = fun _ => 0 := by
    clear hf; revert t; decide +kernel
  refine Eq.trans ?_ (Memref.read_access_unit_zero (Elt Ideal) main_v24_0 hz' (fun a => by rw [congrFun hz' a]; simp) (finAll (V c main_v21_0 : S3072x128.Idx → EReal) (V c main_v22_0 : S3072x128.Idx → EReal) : S3072x1.Idx → EReal)).symm
  rfl

/-- So the array ends holding the logarithms of both tiers' sums. -/
theorem fin_final5 : (dat3 V c).arrAt 5 cfg3.N = ((finAll (V c main_v21_0 : S3072x128.Idx → EReal) (V c main_v22_0 : S3072x128.Idx → EReal) : S3072x1.Idx → EReal) : Buf (Elt Ideal) ((c : Thread nD τ).loc main_v24_0)) :=
  (dat3 V c).arrAt_eq_of_cover 5 _ (fin_flushed5 V c) fun i =>
    ⟨finPoint, by decide +kernel, by
      show i ∈ ((View.whole main_v24_0).slice (win3_5.rect finPoint)).set
      rw [View.set_slice_whole, Rect.mem_set_unit]
      intro a
      have h0 : (i 0 : Nat) < 3072 := (i 0).isLt
      have h1 : (i 1 : Nat) < 1 := (i 1).isLt
      match a with
      | ⟨0, _⟩ => show win3_5.index finPoint 0 * win3_5.size 0 ≤ (i 0 : Nat) ∧ (i 0 : Nat) < win3_5.index finPoint 0 * win3_5.size 0 + win3_5.xsize (grid3.coords finPoint) 0
                  rw [show win3_5.index finPoint 0 * win3_5.size 0 = 0 from by decide +kernel, show win3_5.xsize (grid3.coords finPoint) 0 = 3072 from by decide +kernel]; omega
      | ⟨1, _⟩ => show win3_5.index finPoint 1 * win3_5.size 1 ≤ (i 1 : Nat) ∧ (i 1 : Nat) < win3_5.index finPoint 1 * win3_5.size 1 + win3_5.xsize (grid3.coords finPoint) 1
                  rw [show win3_5.index finPoint 1 * win3_5.size 1 = 0 from by decide +kernel, show win3_5.xsize (grid3.coords finPoint) 1 = 1 from by decide +kernel]; omega⟩

/-- What the point leaves: the log probabilities. -/
theorem fin_out6 (x0 x1 x2 x3 : Vec Ideal S3072x128 .f32) (x4 : Vec Ideal S3072x1 .i32) : out3_6 (F := Ideal) x0 x1 x2 x3 x4 = finPick x0 x1 x2 x3 x4 := by
  unfold out3_6
  rw [View.canon_unit_zero hz]
  simp only [View.ld_unit_zero (S := S3072x128) hz, View.ld_unit_zero (S := S3072x1) hz]
  funext j
  obtain ⟨r, z, rfl⟩ : ∃ (r : Fin 3072) (z : Fin 1), j = ix2 r z := ⟨j 0, j 1, by funext a; match a with | ⟨0, _⟩ => rfl | ⟨1, _⟩ => rfl⟩
  exact pay6_apply x0 x1 x2 x3 x4 r z

/-- The point writes back the log probabilities. -/
theorem fin_flushed6 (t : Fin cfg3.N) (hf : (cfg3.win 6).flush t = true) :
    (dat3 V c).flushed 6 t = ((cfg3.win 6).blk t).view.read (Elt Ideal) ((finPick (V c main_v21_0 : S3072x128.Idx → EReal) (V c main_v21_1 : S3072x128.Idx → EReal) (V c main_v22_0 : S3072x128.Idx → EReal) (V c main_v22_1 : S3072x128.Idx → EReal) (V c main_v23 : S3072x1.Idx → BitVec 32) : S3072x1.Idx → EReal) : Buf (Elt Ideal) ((c : Thread nD τ).loc main_v24_1)) := by
  show (cfg3.win 6).cut (grid3.coords t) ((dat3 V c).after 6 t) = _
  rw [after3_6, fin_out6, fin_in0, fin_in1, fin_in2, fin_in3, fin_in4]
  have hz' : (fun a => win3_6.index t a * main_v24_1.ty.shape.size a) = fun _ => 0 := by
    clear hf; revert t; decide +kernel
  refine Eq.trans ?_ (Memref.read_access_unit_zero (Elt Ideal) main_v24_1 hz' (fun a => by rw [congrFun hz' a]; simp) (finPick (V c main_v21_0 : S3072x128.Idx → EReal) (V c main_v21_1 : S3072x128.Idx → EReal) (V c main_v22_0 : S3072x128.Idx → EReal) (V c main_v22_1 : S3072x128.Idx → EReal) (V c main_v23 : S3072x1.Idx → BitVec 32) : S3072x1.Idx → EReal)).symm
  rfl

/-- So the array ends holding the log probabilities. -/
theorem fin_final6 : (dat3 V c).arrAt 6 cfg3.N = ((finPick (V c main_v21_0 : S3072x128.Idx → EReal) (V c main_v21_1 : S3072x128.Idx → EReal) (V c main_v22_0 : S3072x128.Idx → EReal) (V c main_v22_1 : S3072x128.Idx → EReal) (V c main_v23 : S3072x1.Idx → BitVec 32) : S3072x1.Idx → EReal) : Buf (Elt Ideal) ((c : Thread nD τ).loc main_v24_1)) :=
  (dat3 V c).arrAt_eq_of_cover 6 _ (fin_flushed6 V c) fun i =>
    ⟨finPoint, by decide +kernel, by
      show i ∈ ((View.whole main_v24_1).slice (win3_6.rect finPoint)).set
      rw [View.set_slice_whole, Rect.mem_set_unit]
      intro a
      have h0 : (i 0 : Nat) < 3072 := (i 0).isLt
      have h1 : (i 1 : Nat) < 1 := (i 1).isLt
      match a with
      | ⟨0, _⟩ => show win3_6.index finPoint 0 * win3_6.size 0 ≤ (i 0 : Nat) ∧ (i 0 : Nat) < win3_6.index finPoint 0 * win3_6.size 0 + win3_6.xsize (grid3.coords finPoint) 0
                  rw [show win3_6.index finPoint 0 * win3_6.size 0 = 0 from by decide +kernel, show win3_6.xsize (grid3.coords finPoint) 0 = 3072 from by decide +kernel]; omega
      | ⟨1, _⟩ => show win3_6.index finPoint 1 * win3_6.size 1 ≤ (i 1 : Nat) ∧ (i 1 : Nat) < win3_6.index finPoint 1 * win3_6.size 1 + win3_6.xsize (grid3.coords finPoint) 1
                  rw [show win3_6.index finPoint 1 * win3_6.size 1 = 0 from by decide +kernel, show win3_6.xsize (grid3.coords finPoint) 1 = 1 from by decide +kernel]; omega⟩

/-- What the point leaves: the logarithms of the head's sums. -/
theorem fin_out7 (x0 x1 x2 x3 : Vec Ideal S3072x128 .f32) (x4 : Vec Ideal S3072x1 .i32) : out3_7 (F := Ideal) x0 x1 x2 x3 x4 = finOne x0 := by
  unfold out3_7
  rw [View.canon_unit_zero hz]
  simp only [View.ld_unit_zero (S := S3072x128) hz, View.ld_unit_zero (S := S3072x1) hz]
  funext j
  obtain ⟨r, z, rfl⟩ : ∃ (r : Fin 3072) (z : Fin 1), j = ix2 r z := ⟨j 0, j 1, by funext a; match a with | ⟨0, _⟩ => rfl | ⟨1, _⟩ => rfl⟩
  exact pay4_apply x0 r z

/-- The point writes back the logarithms of the head's sums. -/
theorem fin_flushed7 (t : Fin cfg3.N) (hf : (cfg3.win 7).flush t = true) :
    (dat3 V c).flushed 7 t = ((cfg3.win 7).blk t).view.read (Elt Ideal) ((finOne (V c main_v21_0 : S3072x128.Idx → EReal) : S3072x1.Idx → EReal) : Buf (Elt Ideal) ((c : Thread nD τ).loc main_v24_2)) := by
  show (cfg3.win 7).cut (grid3.coords t) ((dat3 V c).after 7 t) = _
  rw [after3_7, fin_out7, fin_in0]
  have hz' : (fun a => win3_7.index t a * main_v24_2.ty.shape.size a) = fun _ => 0 := by
    clear hf; revert t; decide +kernel
  refine Eq.trans ?_ (Memref.read_access_unit_zero (Elt Ideal) main_v24_2 hz' (fun a => by rw [congrFun hz' a]; simp) (finOne (V c main_v21_0 : S3072x128.Idx → EReal) : S3072x1.Idx → EReal)).symm
  rfl

/-- So the array ends holding the logarithms of the head's sums. -/
theorem fin_final7 : (dat3 V c).arrAt 7 cfg3.N = ((finOne (V c main_v21_0 : S3072x128.Idx → EReal) : S3072x1.Idx → EReal) : Buf (Elt Ideal) ((c : Thread nD τ).loc main_v24_2)) :=
  (dat3 V c).arrAt_eq_of_cover 7 _ (fin_flushed7 V c) fun i =>
    ⟨finPoint, by decide +kernel, by
      show i ∈ ((View.whole main_v24_2).slice (win3_7.rect finPoint)).set
      rw [View.set_slice_whole, Rect.mem_set_unit]
      intro a
      have h0 : (i 0 : Nat) < 3072 := (i 0).isLt
      have h1 : (i 1 : Nat) < 1 := (i 1).isLt
      match a with
      | ⟨0, _⟩ => show win3_7.index finPoint 0 * win3_7.size 0 ≤ (i 0 : Nat) ∧ (i 0 : Nat) < win3_7.index finPoint 0 * win3_7.size 0 + win3_7.xsize (grid3.coords finPoint) 0
                  rw [show win3_7.index finPoint 0 * win3_7.size 0 = 0 from by decide +kernel, show win3_7.xsize (grid3.coords finPoint) 0 = 3072 from by decide +kernel]; omega
      | ⟨1, _⟩ => show win3_7.index finPoint 1 * win3_7.size 1 ≤ (i 1 : Nat) ∧ (i 1 : Nat) < win3_7.index finPoint 1 * win3_7.size 1 + win3_7.xsize (grid3.coords finPoint) 1
                  rw [show win3_7.index finPoint 1 * win3_7.size 1 = 0 from by decide +kernel, show win3_7.xsize (grid3.coords finPoint) 1 = 1 from by decide +kernel]; omega⟩

/-- What the point leaves: the logarithms of the tail's sums. -/
theorem fin_out8 (x0 x1 x2 x3 : Vec Ideal S3072x128 .f32) (x4 : Vec Ideal S3072x1 .i32) : out3_8 (F := Ideal) x0 x1 x2 x3 x4 = finOne x2 := by
  unfold out3_8
  rw [View.canon_unit_zero hz]
  simp only [View.ld_unit_zero (S := S3072x128) hz, View.ld_unit_zero (S := S3072x1) hz]
  funext j
  obtain ⟨r, z, rfl⟩ : ∃ (r : Fin 3072) (z : Fin 1), j = ix2 r z := ⟨j 0, j 1, by funext a; match a with | ⟨0, _⟩ => rfl | ⟨1, _⟩ => rfl⟩
  exact pay4_apply x2 r z

/-- The point writes back the logarithms of the tail's sums. -/
theorem fin_flushed8 (t : Fin cfg3.N) (hf : (cfg3.win 8).flush t = true) :
    (dat3 V c).flushed 8 t = ((cfg3.win 8).blk t).view.read (Elt Ideal) ((finOne (V c main_v22_0 : S3072x128.Idx → EReal) : S3072x1.Idx → EReal) : Buf (Elt Ideal) ((c : Thread nD τ).loc main_v24_3)) := by
  show (cfg3.win 8).cut (grid3.coords t) ((dat3 V c).after 8 t) = _
  rw [after3_8, fin_out8, fin_in2]
  have hz' : (fun a => win3_8.index t a * main_v24_3.ty.shape.size a) = fun _ => 0 := by
    clear hf; revert t; decide +kernel
  refine Eq.trans ?_ (Memref.read_access_unit_zero (Elt Ideal) main_v24_3 hz' (fun a => by rw [congrFun hz' a]; simp) (finOne (V c main_v22_0 : S3072x128.Idx → EReal) : S3072x1.Idx → EReal)).symm
  rfl

/-- So the array ends holding the logarithms of the tail's sums. -/
theorem fin_final8 : (dat3 V c).arrAt 8 cfg3.N = ((finOne (V c main_v22_0 : S3072x128.Idx → EReal) : S3072x1.Idx → EReal) : Buf (Elt Ideal) ((c : Thread nD τ).loc main_v24_3)) :=
  (dat3 V c).arrAt_eq_of_cover 8 _ (fin_flushed8 V c) fun i =>
    ⟨finPoint, by decide +kernel, by
      show i ∈ ((View.whole main_v24_3).slice (win3_8.rect finPoint)).set
      rw [View.set_slice_whole, Rect.mem_set_unit]
      intro a
      have h0 : (i 0 : Nat) < 3072 := (i 0).isLt
      have h1 : (i 1 : Nat) < 1 := (i 1).isLt
      match a with
      | ⟨0, _⟩ => show win3_8.index finPoint 0 * win3_8.size 0 ≤ (i 0 : Nat) ∧ (i 0 : Nat) < win3_8.index finPoint 0 * win3_8.size 0 + win3_8.xsize (grid3.coords finPoint) 0
                  rw [show win3_8.index finPoint 0 * win3_8.size 0 = 0 from by decide +kernel, show win3_8.xsize (grid3.coords finPoint) 0 = 3072 from by decide +kernel]; omega
      | ⟨1, _⟩ => show win3_8.index finPoint 1 * win3_8.size 1 ≤ (i 1 : Nat) ∧ (i 1 : Nat) < win3_8.index finPoint 1 * win3_8.size 1 + win3_8.xsize (grid3.coords finPoint) 1
                  rw [show win3_8.index finPoint 1 * win3_8.size 1 = 0 from by decide +kernel, show win3_8.xsize (grid3.coords finPoint) 1 = 1 from by decide +kernel]; omega⟩

end Cert.KernelIdeal.Value

end
-- ==== Proof.KernelValue.lean ====
/-
  The kernel's four results as functions of the arguments: the contents of the buffers, followed through the four calls and
  the host operations between them, and read at a row `(b, t)`.
-/
module

public import proofs.«01_k».proof.Proof.Channels
public import proofs.«01_k».proof.Proof.HeadArray
public import proofs.«01_k».proof.Proof.TailArray
public import proofs.«01_k».proof.Proof.Finish

@[expose] public section

set_option maxRecDepth 16384

noncomputable section

open Idealize.ShloMosaic Idealize.ShloMosaic.ValueIdx Idealize.ShloMosaic.TcCoe Idealize.SL.Sem

namespace Cert.KernelIdeal.Value

open Cert.KernelIdeal Cert.KernelIdeal.Gen Cert.Spec

variable (m : (ℓ : Loc nD τ sig) → Buf (Elt Ideal) ℓ) (ρ : Dev nD → PrngReg) (c : Dev nD)

/-- The row of the flattened arrays that holds row `(b, t)`. -/
def rowOf (b : Fin 8) (t : Fin 384) : Fin 3072 := ⟨384 * b.val + t.val, by omega⟩

/-- The arguments, as functions. -/
abbrev argX : S8x384x6144.Idx → EReal := m ((c : Thread nD τ).loc main_arg0)
/-- The head's weights. -/
abbrev argWH : S5120x6144.Idx → EReal := m ((c : Thread nD τ).loc main_arg1)
/-- The head's scales. -/
abbrev argSH : S5120.Idx → EReal := m ((c : Thread nD τ).loc main_arg2)
/-- The tail's packed weights. -/
abbrev argWT : S60416x3072.Idx → BitVec 8 := m ((c : Thread nD τ).loc main_arg3)
/-- The tail's scales. -/
abbrev argST : S60416x48.Idx → EReal := m ((c : Thread nD τ).loc main_arg4)
/-- The targets. -/
abbrev argTG : S8x384.Idx → BitVec 32 := m ((c : Thread nD τ).loc main_arg5)

/-- The flattened rows. -/
theorem flatRows_apply (X : S8x384x6144.Idx → EReal) (b : Fin 8) (t : Fin 384) (k : Fin 6144) :
    shapeCast S3072x6144 X shapeCasts_S8x384x6144_S3072x6144 (ix2 (rowOf b t) k) = X (ix3 b t k) :=
  shapeCast_apply _ _ _ _ (by
    rw [Shape.rowMajor_val_three, Shape.rowMajor_val_two]
    show (b.val * 384 + t.val) * 6144 + k.val = (384 * b.val + t.val) * 6144 + k.val
    omega)

/-- The flattened targets. -/
theorem column_apply (TG : S8x384.Idx → BitVec 32) (b : Fin 8) (t : Fin 384) :
    shapeCast S3072x1 TG shapeCasts_S8x384_S3072x1 (ix2 (rowOf b t) (0 : Fin 1)) = TG (ix2 b t) :=
  shapeCast_apply _ _ _ _ (by
    rw [Shape.rowMajor_val_two, Shape.rowMajor_val_two]
    show b.val * 384 + t.val = (384 * b.val + t.val) * 1 + 0
    omega)

/-- The results' shape. -/
theorem result_apply (x : S3072x1.Idx → EReal) (b : Fin 8) (t : Fin 384) :
    shapeCast S8x384 x shapeCasts_S3072x1_S8x384 (ix2 b t) = x (ix2 (rowOf b t) (0 : Fin 1)) :=
  shapeCast_apply _ _ _ _ (by
    rw [Shape.rowMajor_val_two, Shape.rowMajor_val_two]
    show (384 * b.val + t.val) * 1 + 0 = b.val * 384 + t.val
    omega)

/-- The head's scales as one row. -/
theorem scales_apply (S : S5120.Idx → EReal) (n : Fin 5120) :
    shapeCast S1x5120 S shapeCasts_S5120_S1x5120 (ix2 (0 : Fin 1) n) = S (ix1 n) :=
  shapeCast_apply _ _ _ _ (by
    rw [Shape.rowMajor_val_one, Shape.rowMajor_val_two]
    show n.val = 0 * 5120 + n.val
    omega)

/-- The rows when the head's call starts. -/
theorem V11_v0 : V11 m ρ c main_v0 = shapeCast S3072x6144 (argX m c) shapeCasts_S8x384x6144_S3072x6144 :=
  (W11_of m ρ c main_v0 (by decide)).trans ((W10_of m ρ c main_v0 (by decide)).trans (W9_v0 m ρ c))

/-- The reordered rows when the tail's call starts. -/
theorem V12_v17 : V12 m ρ c main_v17 = regrouped (shapeCast S3072x6144 (argX m c) shapeCasts_S8x384x6144_S3072x6144) table :=
  (W12_of m ρ c main_v17 (by decide)).trans ((W11_of m ρ c main_v17 (by decide)).trans ((W10_arr m ρ c 2).trans
    ((regroup_final (V9 m ρ) c).trans (congrArg₂ regrouped (W9_v0 m ρ c) (W9_v16 m ρ c)))))

/-- The target of a row, in each of the row's lanes. -/
theorem V11_v19_apply (b : Fin 8) (t : Fin 384) (l : Fin 128) :
    (V11 m ρ c main_v19 : S3072x128.Idx → BitVec 32) (ix2 (rowOf b t) l) = argTG m c (ix2 b t) :=
  (congrFun (W11_v19 m ρ c) (ix2 (rowOf b t) l)).trans ((broadcastInDim_apply _ _ _ (ix2 (rowOf b t) l) (ix2 (rowOf b t) (0 : Fin 1)) (fun a => match a with
    | ⟨0, _⟩ => rfl
    | ⟨1, _⟩ => rfl)).trans (column_apply _ b t))

/-- The same when the tail's call starts. -/
theorem V12_v19_apply (b : Fin 8) (t : Fin 384) (l : Fin 128) :
    (V12 m ρ c main_v19 : S3072x128.Idx → BitVec 32) (ix2 (rowOf b t) l) = argTG m c (ix2 b t) :=
  (congrFun (W12_of m ρ c main_v19 (by decide)) (ix2 (rowOf b t) l)).trans (V11_v19_apply m ρ c b t l)

/-- A head tile's entry is the capped logit of its vocabulary index. -/
theorem headTiles_apply (b : Fin 8) (t : Fin 384) (v : Nat) (q : Fin 512) :
    headTiles (V11 m ρ) c (rowOf b t) v q = headAt (argX m c) (argWH m c) (argSH m c) b t (headCol v q) := by
  have hW : V11 m ρ c main_arg1 = m ((c : Thread nD τ).loc main_arg1) := W11_args m ρ c main_arg1 (by decide)
  have hS : V11 m ρ c main_v20 = shapeCast S1x5120 (argSH m c) shapeCasts_S5120_S1x5120 := W11_v20 m ρ c
  have key : ∀ n : Fin 5120, headLogit (shapeCast S3072x6144 (argX m c) shapeCasts_S8x384x6144_S3072x6144) (argWH m c)
      (shapeCast S1x5120 (argSH m c) shapeCasts_S5120_S1x5120) (rowOf b t) n = headAt (argX m c) (argWH m c) (argSH m c) b t n := by
    intro n
    unfold headLogit headAt
    rw [scales_apply]
    refine congrArg (fun s => capped (s * argSH m c (ix1 n))) (Finset.sum_congr rfl fun k _ => ?_)
    rw [flatRows_apply]
  unfold headTiles
  rw [V11_v0 m ρ c, hW, hS]
  exact key _

/-- A tail tile's entry is the capped logit of its vocabulary index. -/
theorem tailTiles_apply (b : Fin 8) (t : Fin 384) (v : Nat) (q : Fin 512) :
    tailTiles (V12 m ρ) c (rowOf b t) v q = tailAt (argX m c) (argWT m c) (argST m c) b t (tailCol v q) := by
  have hW : V12 m ρ c main_arg3 = m ((c : Thread nD τ).loc main_arg3) := W12_args m ρ c main_arg3 (by decide)
  have hS : V12 m ρ c main_arg4 = m ((c : Thread nD τ).loc main_arg4) := W12_args m ρ c main_arg4 (by decide)
  have key : ∀ n : Fin 60416, tailLogit (regrouped (shapeCast S3072x6144 (argX m c) shapeCasts_S8x384x6144_S3072x6144) table) (argWT m c)
      (argST m c) (rowOf b t) n = tailAt (argX m c) (argWT m c) (argST m c) b t n := by
    intro n
    unfold tailLogit tailAt
    refine congrArg capped (Eq.trans (Finset.sum_congr rfl fun k _ => ?_) (channels_sum (fun k => argX m c (ix3 b t k)) (fun j => lowNum (argWT m c (ix2 n j)))
      (fun j => highNum (argWT m c (ix2 n j))) (fun s => argST m c (ix2 n s))))
    rw [regrouped_table, flatRows_apply]
    rfl
  unfold tailTiles
  rw [V12_v17 m ρ c, hW, hS]
  exact key _

/-- A sum over a tier's lanes, tiles and columns is one over its vocabulary indices. -/
theorem tier_sum {N M : Nat} (hM : 512 * N = M) (hpos : 0 < M) (f : Fin M → EReal) :
    (∑ l : Fin 128, ∑ v ∈ Finset.range N, ∑ k : Fin 4, f ⟨(512 * v + (laneCol k l).val) % M, Nat.mod_lt _ hpos⟩) = ∑ n : Fin M, f n := by
  rw [sum_columns N (fun n => f ⟨n % M, Nat.mod_lt _ hpos⟩), hM, Finset.sum_range]
  exact Finset.sum_congr rfl fun n _ => congrArg f (Fin.ext (Nat.mod_eq_of_lt n.isLt))

/-- The same with the vocabulary index itself. -/
theorem tier_pick {N M : Nat} (hM : 512 * N = M) (hpos : 0 < M) (tg : BitVec 32) (base : Nat) (f : Fin M → EReal) :
    (∑ l : Fin 128, ∑ v ∈ Finset.range N, ∑ k : Fin 4, if tg = BitVec.ofNat 32 (base + (512 * v + (laneCol k l).val)) then
      f ⟨(512 * v + (laneCol k l).val) % M, Nat.mod_lt _ hpos⟩ else 0) = picked tg base f := by
  rw [sum_columns N (fun n => if tg = BitVec.ofNat 32 (base + n) then f ⟨n % M, Nat.mod_lt _ hpos⟩ else 0), hM, Finset.sum_range]
  exact Finset.sum_congr rfl fun n _ => congrArg (fun e => if tg = BitVec.ofNat 32 (base + n.val) then f e else 0) (Fin.ext (Nat.mod_eq_of_lt n.isLt))

/-- The head's logits of row `(b, t)`. -/
abbrev headRow (b : Fin 8) (t : Fin 384) : Fin 5120 → EReal := headAt (argX m c) (argWH m c) (argSH m c) b t

/-- The tail's logits of row `(b, t)`. -/
abbrev tailRow (b : Fin 8) (t : Fin 384) : Fin 60416 → EReal := tailAt (argX m c) (argWT m c) (argST m c) b t

/-- The head's sums, lanes added, are the row's total. -/
theorem head_lanes (b : Fin 8) (t : Fin 384) : lanes (headSumsEnd (V11 m ρ) c) (rowOf b t) = total (headRow m c b t) := by
  refine Eq.trans (Finset.sum_congr rfl fun l _ => ?_) (tier_sum (N := 10) (M := 5120) rfl (by decide) fun n => expd (headRow m c b t n))
  refine (accSum_eq _ l 9).trans (Finset.sum_congr rfl fun v _ => Finset.sum_congr rfl fun k _ => ?_)
  exact congrArg expd (headTiles_apply m ρ c b t v (laneCol k l))

/-- The tail's sums, lanes added, are the row's total. -/
theorem tail_lanes (b : Fin 8) (t : Fin 384) : lanes (tailSumsEnd (V12 m ρ) c) (rowOf b t) = total (tailRow m c b t) := by
  refine Eq.trans (Finset.sum_congr rfl fun l _ => ?_) (tier_sum (N := 118) (M := 60416) rfl (by decide) fun n => expd (tailRow m c b t n))
  refine (accSum_eq _ l 117).trans (Finset.sum_congr rfl fun v _ => Finset.sum_congr rfl fun k _ => ?_)
  exact congrArg expd (tailTiles_apply m ρ c b t v (laneCol k l))

/-- The head's picks, lanes added, are its part of the picked value. -/
theorem head_picks (b : Fin 8) (t : Fin 384) :
    (∑ l : Fin 128, headPicksEnd (V11 m ρ) c (ix2 (rowOf b t) l)) = picked (argTG m c (ix2 b t)) 0 (headRow m c b t) := by
  refine Eq.trans (Finset.sum_congr rfl fun l _ => ?_) (tier_pick (N := 10) (M := 5120) rfl (by decide) (argTG m c (ix2 b t)) 0 (headRow m c b t))
  refine (accPick_eq 0 _ _ l 9).trans (Finset.sum_congr rfl fun v _ => Finset.sum_congr rfl fun k _ => ?_)
  rw [V11_v19_apply]
  exact congrArg (fun e => if argTG m c (ix2 b t) = BitVec.ofNat 32 (0 + (512 * v + (laneCol k l).val)) then e else 0) (headTiles_apply m ρ c b t v (laneCol k l))

/-- The tail's picks, lanes added, are its part of the picked value. -/
theorem tail_picks (b : Fin 8) (t : Fin 384) :
    (∑ l : Fin 128, tailPicksEnd (V12 m ρ) c (ix2 (rowOf b t) l)) = picked (argTG m c (ix2 b t)) 5120 (tailRow m c b t) := by
  refine Eq.trans (Finset.sum_congr rfl fun l _ => ?_) (tier_pick (N := 118) (M := 60416) rfl (by decide) (argTG m c (ix2 b t)) 5120 (tailRow m c b t))
  refine (accPick_eq 5120 _ _ l 117).trans (Finset.sum_congr rfl fun v _ => Finset.sum_congr rfl fun k _ => ?_)
  rw [V12_v19_apply]
  exact congrArg (fun e => if argTG m c (ix2 b t) = BitVec.ofNat 32 (5120 + (512 * v + (laneCol k l).val)) then e else 0) (tailTiles_apply m ρ c b t v (laneCol k l))

/-- The arrays the last call reads. -/
theorem V14_v21_0 : V14 m ρ c main_v21_0 = headSumsEnd (V11 m ρ) c :=
  (W14_of m ρ c main_v21_0 (by decide)).trans ((W13_of m ρ c main_v21_0 (by decide)).trans ((W12_arr m ρ c 4).trans (head_final_4 (V11 m ρ) c)))

/-- The head's picks. -/
theorem V14_v21_1 : V14 m ρ c main_v21_1 = headPicksEnd (V11 m ρ) c :=
  (W14_of m ρ c main_v21_1 (by decide)).trans ((W13_of m ρ c main_v21_1 (by decide)).trans ((W12_arr m ρ c 5).trans (head_final_5 (V11 m ρ) c)))

/-- The tail's sums. -/
theorem V14_v22_0 : V14 m ρ c main_v22_0 = tailSumsEnd (V12 m ρ) c :=
  (W14_of m ρ c main_v22_0 (by decide)).trans ((W13_arr m ρ c 4).trans (tail_final_4 (V12 m ρ) c))

/-- The tail's picks. -/
theorem V14_v22_1 : V14 m ρ c main_v22_1 = tailPicksEnd (V12 m ρ) c :=
  (W14_of m ρ c main_v22_1 (by decide)).trans ((W13_arr m ρ c 5).trans (tail_final_5 (V12 m ρ) c))

/-- The targets as a column. -/
theorem V14_v23 : V14 m ρ c main_v23 = shapeCast S3072x1 (argTG m c) shapeCasts_S8x384_S3072x1 := W14_v23 m ρ c

/-- The first result: the logarithm of the sum of all exponentials. -/
theorem kernel_lse (b : Fin 8) (t : Fin 384) :
    (W16 m ρ c main_v25 : S8x384.Idx → EReal) (ix2 b t) = lseOf (headRow m c b t) (tailRow m c b t) := by
  refine (congrFun (W16_results m ρ c).1 (ix2 b t)).trans ((result_apply _ b t).trans ?_)
  refine (congrFun ((W15_arr m ρ c 5).trans (fin_final5 (V14 m ρ) c)) (ix2 (rowOf b t) (0 : Fin 1))).trans ?_
  rw [V14_v21_0 m ρ c, V14_v22_0 m ρ c]
  show Ideal.log (lanes _ (rowOf b t) + lanes _ (rowOf b t)) = _
  rw [head_lanes, tail_lanes]
  rfl

/-- The second result: the target's log probability. -/
theorem kernel_prob (b : Fin 8) (t : Fin 384) :
    (W16 m ρ c main_v26 : S8x384.Idx → EReal) (ix2 b t) = probOf (headRow m c b t) (tailRow m c b t) (argTG m c (ix2 b t)) := by
  refine (congrFun (W16_results m ρ c).2.1 (ix2 b t)).trans ((result_apply _ b t).trans ?_)
  refine (congrFun ((W15_arr m ρ c 6).trans (fin_final6 (V14 m ρ) c)) (ix2 (rowOf b t) (0 : Fin 1))).trans ?_
  rw [V14_v21_0 m ρ c, V14_v22_0 m ρ c, V14_v21_1 m ρ c, V14_v22_1 m ρ c, V14_v23 m ρ c]
  show Scalar.select (IntOp.cmpi .sge (shapeCast S3072x1 (argTG m c) shapeCasts_S8x384_S3072x1 (ix2 (rowOf b t) (0 : Fin 1))) 0#32)
    (Ideal.ofBits .f32 0x41F00000#32 * (∑ l : Fin 128, (headPicksEnd (V11 m ρ) c (ix2 (rowOf b t) l) + tailPicksEnd (V12 m ρ) c (ix2 (rowOf b t) l)))
      - Ideal.log (lanes _ (rowOf b t) + lanes _ (rowOf b t))) 0 = _
  rw [head_lanes, tail_lanes, Finset.sum_add_distrib, head_picks, tail_picks, column_apply]
  rfl

/-- The third result: the logarithm of the head's sum. -/
theorem kernel_lse_head (b : Fin 8) (t : Fin 384) :
    (W16 m ρ c main_v27 : S8x384.Idx → EReal) (ix2 b t) = Ideal.log (total (headRow m c b t)) := by
  refine (congrFun (W16_results m ρ c).2.2.1 (ix2 b t)).trans ((result_apply _ b t).trans ?_)
  refine (congrFun ((W15_arr m ρ c 7).trans (fin_final7 (V14 m ρ) c)) (ix2 (rowOf b t) (0 : Fin 1))).trans ?_
  rw [V14_v21_0 m ρ c]
  exact congrArg Ideal.log (head_lanes m ρ c b t)

/-- The fourth result: the logarithm of the tail's sum. -/
theorem kernel_lse_tail (b : Fin 8) (t : Fin 384) :
    (W16 m ρ c main_v28 : S8x384.Idx → EReal) (ix2 b t) = Ideal.log (total (tailRow m c b t)) := by
  refine (congrFun (W16_results m ρ c).2.2.2 (ix2 b t)).trans ((result_apply _ b t).trans ?_)
  refine (congrFun ((W15_arr m ρ c 8).trans (fin_final8 (V14 m ρ) c)) (ix2 (rowOf b t) (0 : Fin 1))).trans ?_
  rw [V14_v22_0 m ρ c]
  exact congrArg Ideal.log (tail_lanes m ρ c b t)

end Cert.KernelIdeal.Value

end
-- ==== Proof.Widen.lean ====
/-
  The reference's one call leaves the head's weights as they are: on extended reals widening is the identity.
-/
module

public import proofs.«01_k».proof.Proof.Gen.ReferenceIdeal.Frame
public import proofs.«01_k».proof.Proof.Tile

@[expose] public section

set_option maxRecDepth 16384

noncomputable section

open Idealize.ShloMosaic Idealize.ShloMosaic.ValueIdx Idealize.ShloMosaic.TcCoe Idealize.SL.Sem

namespace Cert.ReferenceIdeal.Value

open Cert.ReferenceIdeal Cert.ReferenceIdeal.Gen
open Cert.KernelIdeal.Value (hz)

variable (m : (ℓ : Loc nD τ sig) → Buf (Elt Ideal) ℓ) (c : Dev nD)

/-- The one point. -/
abbrev widenPoint : Fin cfg0.N := ⟨0, by decide⟩

/-- The block of the operand is the whole array. -/
theorem widen_in (t : Fin cfg0.N) : (iblk m c 0 t : Vec Ideal S5120x6144 .fp8e4m3) = (m ((c : Thread nD τ).loc main_arg1) : S5120x6144.Idx → EReal) := by
  have hz' : (fun a => win0_0.index t a * main_arg1.ty.shape.size a) = fun _ => 0 := by
    revert t; decide +kernel
  exact Memref.read_access_unit_zero (Elt Ideal) main_arg1 hz' (fun a => by rw [congrFun hz' a]; simp) (m ((c : Thread nD τ).loc main_arg1))

/-- What the point leaves. -/
theorem widen_out (x : Vec Ideal S5120x6144 .fp8e4m3) : (out0_1 (F := Ideal) x : S5120x6144.Idx → EReal) = x := by
  unfold out0_1
  rw [View.canon_unit_zero hz, View.ld_unit_zero (S := S5120x6144) hz]
  rfl

/-- The point writes back the weights. -/
theorem widen_flushed (t : Fin cfg0.N) (hf : (cfg0.win 1).flush t = true) :
    (dats m 0 c).flushed 1 t = ((cfg0.win 1).blk t).view.read (Elt Ideal) ((m ((c : Thread nD τ).loc main_arg1) : S5120x6144.Idx → EReal) : Buf (Elt Ideal) ((c : Thread nD τ).loc main_v0)) := by
  show (cfg0.win 1).cut (grid0.coords t) ((dats m 0 c).after 1 t) = _
  rw [after0_1]
  have hz' : (fun a => win0_1.index t a * main_v0.ty.shape.size a) = fun _ => 0 := by
    clear hf; revert t; decide +kernel
  refine Eq.trans ?_ (Memref.read_access_unit_zero (Elt Ideal) main_v0 hz' (fun a => by rw [congrFun hz' a]; simp) (m ((c : Thread nD τ).loc main_arg1) : S5120x6144.Idx → EReal)).symm
  exact (widen_out _).trans (widen_in m c t)

/-- So the array ends holding the weights. -/
theorem widen_final : (dats m 0 c).arrAt 1 cfg0.N = ((m ((c : Thread nD τ).loc main_arg1) : S5120x6144.Idx → EReal) : Buf (Elt Ideal) ((c : Thread nD τ).loc main_v0)) :=
  (dats m 0 c).arrAt_eq_of_cover 1 _ (widen_flushed m c) fun i =>
    ⟨widenPoint, by decide +kernel, by
      show i ∈ ((View.whole main_v0).slice (win0_1.rect widenPoint)).set
      rw [View.set_slice_whole, Rect.mem_set_unit]
      intro a
      have h0 : (i 0 : Nat) < 5120 := (i 0).isLt
      have h1 : (i 1 : Nat) < 6144 := (i 1).isLt
      match a with
      | ⟨0, _⟩ => exact ⟨Nat.zero_le _, h0⟩
      | ⟨1, _⟩ => exact ⟨Nat.zero_le _, h1⟩⟩

end Cert.ReferenceIdeal.Value

end
-- ==== Proof.RefHost.lean ====
/-
  The reference's host operations, stage by stage: each stage is written as a function of the arrays it reads, and what a
  line of operations leaves in the stage's array is that function of what the line finds.
-/
module

public import proofs.«01_k».proof.Proof.Gen.ReferenceIdeal.Frame
public import proofs.«01_k».proof.Proof.Widen
public import Idealize.ShloMosaic.Lib.StableHlo.Run
public import Idealize.ShloMosaic.Lib.StableHlo.RunRead

@[expose] public section

set_option maxRecDepth 16384

noncomputable section

open Idealize.ShloMosaic Idealize.ShloMosaic.ValueIdx Idealize.ShloMosaic.TcCoe Idealize.SL.Sem Idealize.ShloMosaic.StableHlo

namespace Cert.ReferenceIdeal.Value

open Cert.ReferenceIdeal Cert.ReferenceIdeal.Gen

/-- The head's logits, capped at 30. -/
def headCap (X : FVec Ideal S8x384x6144 .bf16) (W : FVec Ideal S5120x6144 .bf16) (S : FVec Ideal S5120 .f32) : FVec Ideal S8x384x5120 .f32 :=
  mulf (broadcastInDim S8x384x5120 ![] bcast_S_S8x384x5120 (constant (F := Ideal) S_ .f32 0x41F00000#32))
    (Host.tanh (mulf (mulf (Host.dotGeneral dot_S8x384x6144_S5120x6144_S8x384x5120_2_1_01_0_n_n none X W)
        (broadcastInDim S8x384x5120 ![0, 1, 2] bcast_S1x1x5120_S8x384x5120_0_1_2 (broadcastInDim S1x1x5120 ![2] bcast_S5120_S1x1x5120_2 S)))
      (broadcastInDim S8x384x5120 ![] bcast_S_S8x384x5120 (constant (F := Ideal) S_ .f32 0x3D088889#32))))

/-- The tail's bytes as words. -/
def bytes (B : S60416x3072.Idx → BitVec 8) : S60416x3072.Idx → BitVec 32 := extui 32 B natLt_8_32

/-- A word along the tail's bytes. -/
def along (w : BitVec 32) : S60416x3072.Idx → BitVec 32 := broadcastInDim S60416x3072 ![] bcast_S_S60416x3072 (constantI S_ 32 w)

/-- The bytes' low halves. -/
def lowHalf (B : S60416x3072.Idx → BitVec 8) : S60416x3072.Idx → BitVec 32 := andi (bytes B) (along 15#32)

/-- The bytes' high halves. -/
def highHalf (b : S60416x3072.Idx → BitVec 32) : S60416x3072.Idx → BitVec 32 := Host.shrsi b (along 4#32)

/-- Halves as signed numbers: those from 8 on stand for themselves less 16. -/
def signed (n : S60416x3072.Idx → BitVec 32) : S60416x3072.Idx → BitVec 32 := select (cmpi .sge n (along 8#32)) (subi n (along 16#32)) n

/-- Numbers times their scales, one scale for 64 of them. -/
def scaled (n : S60416x3072.Idx → BitVec 32) (S : FVec Ideal S60416x48 .bf16) : FVec Ideal S60416x3072 .bf16 :=
  shapeCast S60416x3072 (mulf (shapeCast S60416x48x64 (sitofp (F := Ideal) .bf16 n) shapeCasts_S60416x3072_S60416x48x64)
    (broadcastInDim S60416x48x64 ![0, 1, 2] bcast_S60416x48x1_S60416x48x64_0_1_2 (broadcastInDim S60416x48x1 ![0, 1] bcast_S60416x48_S60416x48x1_0_1 S)))
    shapeCasts_S60416x48x64_S60416x3072

/-- The tail's logits, capped at 30: the even channels against one matrix, the odd ones against the other. -/
def tailCap (X : FVec Ideal S8x384x6144 .bf16) (L H : FVec Ideal S60416x3072 .bf16) : FVec Ideal S8x384x60416 .f32 :=
  mulf (broadcastInDim S8x384x60416 ![] bcast_S_S8x384x60416 (constant (F := Ideal) S_ .f32 0x41F00000#32))
    (Host.tanh (mulf (addf (Host.dotGeneral dot_S8x384x3072_S60416x3072_S8x384x60416_2_1_01_0_n_n none
          (Host.slice S8x384x3072 ![0, 0, 0] ![1, 1, 2] X slicesBy_S8x384x6144_S8x384x3072_0s1_0s1_0s2) L)
        (Host.dotGeneral dot_S8x384x3072_S60416x3072_S8x384x60416_2_1_01_0_n_n none
          (Host.slice S8x384x3072 ![0, 0, 1] ![1, 1, 2] X slicesBy_S8x384x6144_S8x384x3072_0s1_0s1_1s2) H))
      (broadcastInDim S8x384x60416 ![] bcast_S_S8x384x60416 (constant (F := Ideal) S_ .f32 0x3D088889#32))))

/-- The head's greatest logit of each row. -/
def headTop (x : FVec Ideal S8x384x5120 .f32) : FVec Ideal S8x384 .f32 :=
  Host.reduce FloatOps.maximumf x (constant (F := Ideal) S_ .f32 0xFF800000#32) reducesTo_S8x384x5120_S8x384_d2 h_S_

/-- The logarithm of the head's sum of exponentials, about the greatest logit. -/
def headLse (x : FVec Ideal S8x384x5120 .f32) : FVec Ideal S8x384 .f32 :=
  addf (headTop x) (Host.log (Host.reduceAdd (Host.exp (subf x
    (broadcastInDim S8x384x5120 ![0, 1, 2] bcast_S8x384x1_S8x384x5120_0_1_2 (broadcastInDim S8x384x1 ![0, 1] bcast_S8x384_S8x384x1_0_1 (headTop x)))))
    (constant (F := Ideal) S_ .f32 0x00000000#32) reducesTo_S8x384x5120_S8x384_d2 h_S_))

/-- The tail's greatest logit of each row. -/
def tailTop (x : FVec Ideal S8x384x60416 .f32) : FVec Ideal S8x384 .f32 :=
  Host.reduce FloatOps.maximumf x (constant (F := Ideal) S_ .f32 0xFF800000#32) reducesTo_S8x384x60416_S8x384_d2 h_S_

/-- The logarithm of the tail's sum of exponentials, about the greatest logit. -/
def tailLse (x : FVec Ideal S8x384x60416 .f32) : FVec Ideal S8x384 .f32 :=
  addf (tailTop x) (Host.log (Host.reduceAdd (Host.exp (subf x
    (broadcastInDim S8x384x60416 ![0, 1, 2] bcast_S8x384x1_S8x384x60416_0_1_2 (broadcastInDim S8x384x1 ![0, 1] bcast_S8x384_S8x384x1_0_1 (tailTop x)))))
    (constant (F := Ideal) S_ .f32 0x00000000#32) reducesTo_S8x384x60416_S8x384_d2 h_S_))

/-- Two logarithms of sums as the logarithm of the sums' sum. -/
def both (a b : FVec Ideal S8x384 .f32) : FVec Ideal S8x384 .f32 :=
  select (cmpf .une (subf a b) (subf a b)) (addf a b)
    (addf (maximumf a b) (Host.log1p (Host.exp (Host.negf (Host.absf (subf a b))))))

/-- A word for every row. -/
def perRow (w : BitVec 32) : S8x384.Idx → BitVec 32 := broadcastInDim S8x384 ![] bcast_S_S8x384 (constantI S_ 32 w)

/-- Indices brought into `lo … hi`. -/
def clipped (lo hi : BitVec 32) (t : S8x384.Idx → BitVec 32) : S8x384.Idx → BitVec 32 := minsi (perRow hi) (maxsi (perRow lo) t)

/-- Indices as a column. -/
def column (t : S8x384.Idx → BitVec 32) : S8x384x1.Idx → BitVec 32 := broadcastInDim S8x384x1 ![0, 1] bcast_S8x384_S8x384x1_0_1 t

/-- Indices counted from the end when negative. -/
def fromEnd (len : BitVec 32) (i : S8x384x1.Idx → BitVec 32) : S8x384x1x1.Idx → BitVec 32 :=
  shapeCast S8x384x1x1 (select (cmpi .slt i (broadcastInDim S8x384x1 ![] bcast_S_S8x384x1 (constantI S_ 32 0#32)))
    (addi i (broadcastInDim S8x384x1 ![] bcast_S_S8x384x1 (constantI S_ 32 len))) i) shapeCasts_S8x384x1_S8x384x1x1

/-- Which of the indices lie in `0 … last`. -/
def inside (last : BitVec 32) (i : S8x384x1x1.Idx → BitVec 32) : S8x384x1.Idx → BitVec 1 :=
  Host.reduce IntOp.andi (andi (cmpi .sge i (broadcastInDim S8x384x1x1 ![] bcast_S_S8x384x1x1 (constantI S_ 32 0#32)))
    (cmpi .sle i (broadcastInDim S8x384x1x1 ![0, 1, 2, 3] bcast_S1x1x1x1_S8x384x1x1_0_1_2_3 (broadcastInDim S1x1x1x1 ![3] bcast_S1_S1x1x1x1_3 (constantI S1 32 last)))))
    (constantI S_ 1 1#1) reducesTo_S8x384x1x1_S8x384x1_d3 h_S_

/-- What takes the place of an entry outside. -/
def missing : FVec Ideal S8x384x1 .f32 := broadcastInDim S8x384x1 ![] bcast_S_S8x384x1 (constant (F := Ideal) S_ .f32 0x7FC00000#32)

/-- The head's entries at the indices. -/
def headTake (x : FVec Ideal S8x384x5120 .f32) (i : S8x384x1.Idx → BitVec 32) : FVec Ideal S8x384x1 .f32 :=
  select (inside 5119#32 (fromEnd 5120#32 i)) (Host.gather gather_S8x384x5120_S8x384x1x1_S8x384x1_n_2_01_01_2_3_111 x (fromEnd 5120#32 i)) missing

/-- The tail's entries at the indices. -/
def tailTake (x : FVec Ideal S8x384x60416 .f32) (i : S8x384x1.Idx → BitVec 32) : FVec Ideal S8x384x1 .f32 :=
  select (inside 60415#32 (fromEnd 60416#32 i)) (Host.gather gather_S8x384x60416_S8x384x1x1_S8x384x1_n_2_01_01_2_3_111 x (fromEnd 60416#32 i)) missing

/-- The target's log probability from the two tiers' entries and the logarithm of all. -/
def prob (tg : S8x384.Idx → BitVec 32) (h t : FVec Ideal S8x384x1 .f32) (l : FVec Ideal S8x384 .f32) : FVec Ideal S8x384 .f32 :=
  select (cmpi .sge tg (perRow 0#32))
    (subf (select (cmpi .slt tg (perRow 5120#32)) (shapeCast S8x384 h shapeCasts_S8x384x1_S8x384) (shapeCast S8x384 t shapeCasts_S8x384x1_S8x384)) l)
    (broadcastInDim S8x384 ![] bcast_S_S8x384 (constant (F := Ideal) S_ .f32 0x00000000#32))

variable (E : Valuation τ sig (Elt Ideal))

/-- The first line: the head's capped logits. -/
theorem line0_v9 : StableHlo.after (hostOps1 (F := Ideal)) E (Proc.devRef .tc main_v9) = headCap (E (Proc.devRef .tc main_arg0)) (E (Proc.devRef .tc main_v0)) (E (Proc.devRef .tc main_arg2)) := by
  after_results_simp <;> rfl

/-- The bytes as words. -/
theorem line0_v10 : StableHlo.after (hostOps1 (F := Ideal)) E (Proc.devRef .tc main_v10) = bytes (E (Proc.devRef .tc main_arg3)) := by
  after_results_simp <;> rfl

/-- The low halves. -/
theorem line0_v12 : StableHlo.after (hostOps1 (F := Ideal)) E (Proc.devRef .tc main_v12) = lowHalf (E (Proc.devRef .tc main_arg3)) := by
  after_results_simp <;> rfl

/-- Which low halves stand for negative numbers. -/
theorem line0_v14 : StableHlo.after (hostOps1 (F := Ideal)) E (Proc.devRef .tc main_v14) = cmpi .sge (lowHalf (E (Proc.devRef .tc main_arg3))) (along 8#32) := by
  after_results_simp <;> rfl

/-- The low halves less 16. -/
theorem line0_v16 : StableHlo.after (hostOps1 (F := Ideal)) E (Proc.devRef .tc main_v16) = subi (lowHalf (E (Proc.devRef .tc main_arg3))) (along 16#32) := by
  after_results_simp <;> rfl

/-- The low numbers chosen. -/
theorem line1_v17 : StableHlo.after (hostOps1_1 (F := Ideal)) E (Proc.devRef .tc main_v17) = select (E (Proc.devRef .tc main_v14)) (E (Proc.devRef .tc main_v16)) (E (Proc.devRef .tc main_v12)) := by
  simp only [hostOps1_1, TRef.binary, TRef.nullary, TRef.reshape, TRef.ternary, TRef.unary, TRef.toBuf, TRef.ofBuf, cast_eq]
  after_results_simp <;> rfl

/-- The low numbers scaled. -/
theorem line2_v23 : StableHlo.after (hostOps1_2 (F := Ideal)) E (Proc.devRef .tc main_v23) = scaled (E (Proc.devRef .tc main_v17)) (E (Proc.devRef .tc main_arg4)) := by
  after_results_simp <;> rfl

/-- The high halves. -/
theorem line2_v25 : StableHlo.after (hostOps1_2 (F := Ideal)) E (Proc.devRef .tc main_v25) = highHalf (E (Proc.devRef .tc main_v10)) := by
  after_results_simp <;> rfl

/-- Which high halves stand for negative numbers. -/
theorem line2_v27 : StableHlo.after (hostOps1_2 (F := Ideal)) E (Proc.devRef .tc main_v27) = cmpi .sge (highHalf (E (Proc.devRef .tc main_v10))) (along 8#32) := by
  after_results_simp <;> rfl

/-- The high halves less 16. -/
theorem line2_v29 : StableHlo.after (hostOps1_2 (F := Ideal)) E (Proc.devRef .tc main_v29) = subi (highHalf (E (Proc.devRef .tc main_v10))) (along 16#32) := by
  after_results_simp <;> rfl

/-- The high numbers chosen. -/
theorem line3_v30 : StableHlo.after (hostOps1_3 (F := Ideal)) E (Proc.devRef .tc main_v30) = select (E (Proc.devRef .tc main_v27)) (E (Proc.devRef .tc main_v29)) (E (Proc.devRef .tc main_v25)) := by
  simp only [hostOps1_3, TRef.binary, TRef.nullary, TRef.reshape, TRef.ternary, TRef.unary, TRef.toBuf, TRef.ofBuf, cast_eq]
  after_results_simp <;> rfl

/-- The tail's capped logits. -/
theorem line4_v46 : StableHlo.after (hostOps1_4 (F := Ideal)) E (Proc.devRef .tc main_v46) = (tailCap (E (Proc.devRef .tc main_arg0)) (E (Proc.devRef .tc main_v23)) (scaled (E (Proc.devRef .tc main_v30)) (E (Proc.devRef .tc main_arg4)))) := by
  after_results_simp <;> rfl

/-- The logarithm of the head's sum. -/
theorem line4_v54 : StableHlo.after (hostOps1_4 (F := Ideal)) E (Proc.devRef .tc main_v54) = headLse (E (Proc.devRef .tc main_v9)) := by
  after_results_simp <;> rfl

/-- The logarithm of the tail's sum. -/
theorem line4_v62 : StableHlo.after (hostOps1_4 (F := Ideal)) E (Proc.devRef .tc main_v62) = tailLse (tailCap (E (Proc.devRef .tc main_arg0)) (E (Proc.devRef .tc main_v23)) (scaled (E (Proc.devRef .tc main_v30)) (E (Proc.devRef .tc main_arg4)))) := by
  after_results_simp <;> rfl

/-- The logarithm of both sums. -/
theorem line4_v72 : StableHlo.after (hostOps1_4 (F := Ideal)) E (Proc.devRef .tc main_v72) = both (headLse (E (Proc.devRef .tc main_v9))) (tailLse (tailCap (E (Proc.devRef .tc main_arg0)) (E (Proc.devRef .tc main_v23)) (scaled (E (Proc.devRef .tc main_v30)) (E (Proc.devRef .tc main_arg4))))) := by
  after_results_simp <;> rfl

/-- The head's least index. -/
theorem line4_c12 : StableHlo.after (hostOps1_4 (F := Ideal)) E (Proc.devRef .tc main_c_12) = constantI S_ 32 0#32 := by
  after_results_simp <;> rfl

/-- The head's greatest index. -/
theorem line4_c13 : StableHlo.after (hostOps1_4 (F := Ideal)) E (Proc.devRef .tc main_c_13) = constantI S_ 32 5119#32 := by
  after_results_simp <;> rfl

/-- The targets brought into the head's range. -/
theorem line5_v73 : StableHlo.after (hostOps1_5 (F := Ideal)) E (Proc.devRef .tc main_v73) = minsi (broadcastInDim S8x384 ![] bcast_S_S8x384 (E (Proc.devRef .tc main_c_13))) (maxsi (broadcastInDim S8x384 ![] bcast_S_S8x384 (E (Proc.devRef .tc main_c_12))) (E (Proc.devRef .tc main_arg5))) := by
  simp only [hostOps1_5, TRef.binary, TRef.nullary, TRef.reshape, TRef.ternary, TRef.unary, TRef.toBuf, TRef.ofBuf, cast_eq]
  after_results_simp <;> rfl

/-- The targets counted from the tail's first index. -/
theorem line6_v75 : StableHlo.after (hostOps1_6 (F := Ideal)) E (Proc.devRef .tc main_v75) = subi (E (Proc.devRef .tc main_arg5)) (perRow 5120#32) := by
  after_results_simp <;> rfl

/-- The tail's least index. -/
theorem line6_c15 : StableHlo.after (hostOps1_6 (F := Ideal)) E (Proc.devRef .tc main_c_15) = constantI S_ 32 0#32 := by
  after_results_simp <;> rfl

/-- The tail's greatest index. -/
theorem line6_c16 : StableHlo.after (hostOps1_6 (F := Ideal)) E (Proc.devRef .tc main_c_16) = constantI S_ 32 60415#32 := by
  after_results_simp <;> rfl

/-- Those brought into the tail's range. -/
theorem line7_v76 : StableHlo.after (hostOps1_7 (F := Ideal)) E (Proc.devRef .tc main_v76) = minsi (broadcastInDim S8x384 ![] bcast_S_S8x384 (E (Proc.devRef .tc main_c_16))) (maxsi (broadcastInDim S8x384 ![] bcast_S_S8x384 (E (Proc.devRef .tc main_c_15))) (E (Proc.devRef .tc main_v75))) := by
  simp only [hostOps1_7, TRef.binary, TRef.nullary, TRef.reshape, TRef.ternary, TRef.unary, TRef.toBuf, TRef.ofBuf, cast_eq]
  after_results_simp <;> rfl

/-- The head's indices as a column. -/
theorem line8_v77 : StableHlo.after (hostOps1_8 (F := Ideal)) E (Proc.devRef .tc main_v77) = column (E (Proc.devRef .tc main_v73)) := by
  after_results_simp <;> rfl

/-- The head's entries. -/
theorem line9_v78 : StableHlo.after (hostOps1_9 (F := Ideal)) E (Proc.devRef .tc main_v78) = headTake (E (Proc.devRef .tc main_v9)) (E (Proc.devRef .tc main_v77)) := by
  simp only [hostOps1_9, TRef.binary, TRef.nullary, TRef.reshape, TRef.ternary, TRef.unary, TRef.toBuf, TRef.ofBuf, cast_eq]
  after_results_simp <;> rfl

/-- The head's entries, a row each. -/
theorem line10_v79 : StableHlo.after (hostOps1_10 (F := Ideal)) E (Proc.devRef .tc main_v79) = shapeCast S8x384 (E (Proc.devRef .tc main_v78)) shapeCasts_S8x384x1_S8x384 := by
  after_results_simp <;> rfl

/-- The tail's indices as a column. -/
theorem line10_v80 : StableHlo.after (hostOps1_10 (F := Ideal)) E (Proc.devRef .tc main_v80) = column (E (Proc.devRef .tc main_v76)) := by
  after_results_simp <;> rfl

/-- The tail's entries. -/
theorem line11_v81 : StableHlo.after (hostOps1_11 (F := Ideal)) E (Proc.devRef .tc main_v81) = tailTake (E (Proc.devRef .tc main_v46)) (E (Proc.devRef .tc main_v80)) := by
  simp only [hostOps1_11, TRef.binary, TRef.nullary, TRef.reshape, TRef.ternary, TRef.unary, TRef.toBuf, TRef.ofBuf, cast_eq]
  after_results_simp <;> rfl

/-- The tail's entries, a row each. -/
theorem line12_v82 : StableHlo.after (hostOps1_12 (F := Ideal)) E (Proc.devRef .tc main_v82) = shapeCast S8x384 (E (Proc.devRef .tc main_v81)) shapeCasts_S8x384x1_S8x384 := by
  after_results_simp <;> rfl

/-- Which targets are the head's. -/
theorem line12_v84 : StableHlo.after (hostOps1_12 (F := Ideal)) E (Proc.devRef .tc main_v84) = cmpi .slt (E (Proc.devRef .tc main_arg5)) (perRow 5120#32) := by
  after_results_simp <;> rfl

/-- The entry of the target's tier. -/
theorem line13_v85 : StableHlo.after (hostOps1_13 (F := Ideal)) E (Proc.devRef .tc main_v85) = select (E (Proc.devRef .tc main_v84)) (E (Proc.devRef .tc main_v79)) (E (Proc.devRef .tc main_v82)) := by
  simp only [hostOps1_13, TRef.binary, TRef.nullary, TRef.reshape, TRef.ternary, TRef.unary, TRef.toBuf, TRef.ofBuf, cast_eq]
  after_results_simp <;> rfl

/-- Which targets count. -/
theorem line14_v87 : StableHlo.after (hostOps1_14 (F := Ideal)) E (Proc.devRef .tc main_v87) = cmpi .sge (E (Proc.devRef .tc main_arg5)) (perRow 0#32) := by
  after_results_simp <;> rfl

/-- The entries less the logarithm. -/
theorem line14_v88 : StableHlo.after (hostOps1_14 (F := Ideal)) E (Proc.devRef .tc main_v88) = subf (F := Ideal) (φ := .f32) (E (Proc.devRef .tc main_v85)) (E (Proc.devRef .tc main_v72)) := by
  after_results_simp <;> rfl

/-- The value of a target that does not count. -/
theorem line14_cst : StableHlo.after (hostOps1_14 (F := Ideal)) E (Proc.devRef .tc main_cst_19) = constant (F := Ideal) S_ .f32 0x00000000#32 := by
  after_results_simp <;> rfl

/-- The log probabilities. -/
theorem line15_v89 : StableHlo.after (hostOps1_15 (F := Ideal)) E (Proc.devRef .tc main_v89) = select (E (Proc.devRef .tc main_v87)) (E (Proc.devRef .tc main_v88)) (broadcastInDim S8x384 ![] bcast_S_S8x384 (E (Proc.devRef .tc main_cst_19))) := by
  simp only [hostOps1_15, TRef.binary, TRef.nullary, TRef.reshape, TRef.ternary, TRef.unary, TRef.toBuf, TRef.ofBuf, cast_eq]
  after_results_simp <;> rfl

end Cert.ReferenceIdeal.Value

end
-- ==== Proof.RefFold.lean ====
/-
  The reference's lines of host operations one after another: what its four results' arrays hold at the end, as the stages'
  functions of the arguments.
-/
module

public import proofs.«01_k».proof.Proof.RefHost

@[expose] public section

set_option maxRecDepth 16384

noncomputable section

open Idealize.ShloMosaic Idealize.ShloMosaic.ValueIdx Idealize.ShloMosaic.TcCoe Idealize.SL.Sem Idealize.ShloMosaic.StableHlo

namespace Cert.ReferenceIdeal.Value

open Cert.ReferenceIdeal Cert.ReferenceIdeal.Gen

variable (m : (ℓ : Loc nD τ sig) → Buf (Elt Ideal) ℓ) (c : Dev nD)

/-- The buffers when the call has ended. -/
def R0 : Valuation τ sig (Elt Ideal) := Pipeline.withArrays (cfgs 0).spec c (V0 m c) fun w => (dats m 0 c).arrAt w (cfgs 0).N

/-- After line 0. -/
abbrev R1 : Valuation τ sig (Elt Ideal) := StableHlo.after hostOps1 (R0 m c)

/-- After line 1. -/
abbrev R2 : Valuation τ sig (Elt Ideal) := StableHlo.after hostOps1_1 (R1 m c)

/-- After line 2. -/
abbrev R3 : Valuation τ sig (Elt Ideal) := StableHlo.after hostOps1_2 (R2 m c)

/-- After line 3. -/
abbrev R4 : Valuation τ sig (Elt Ideal) := StableHlo.after hostOps1_3 (R3 m c)

/-- After line 4. -/
abbrev R5 : Valuation τ sig (Elt Ideal) := StableHlo.after hostOps1_4 (R4 m c)

/-- After line 5. -/
abbrev R6 : Valuation τ sig (Elt Ideal) := StableHlo.after hostOps1_5 (R5 m c)

/-- After line 6. -/
abbrev R7 : Valuation τ sig (Elt Ideal) := StableHlo.after hostOps1_6 (R6 m c)

/-- After line 7. -/
abbrev R8 : Valuation τ sig (Elt Ideal) := StableHlo.after hostOps1_7 (R7 m c)

/-- After line 8. -/
abbrev R9 : Valuation τ sig (Elt Ideal) := StableHlo.after hostOps1_8 (R8 m c)

/-- After line 9. -/
abbrev R10 : Valuation τ sig (Elt Ideal) := StableHlo.after hostOps1_9 (R9 m c)

/-- After line 10. -/
abbrev R11 : Valuation τ sig (Elt Ideal) := StableHlo.after hostOps1_10 (R10 m c)

/-- After line 11. -/
abbrev R12 : Valuation τ sig (Elt Ideal) := StableHlo.after hostOps1_11 (R11 m c)

/-- After line 12. -/
abbrev R13 : Valuation τ sig (Elt Ideal) := StableHlo.after hostOps1_12 (R12 m c)

/-- After line 13. -/
abbrev R14 : Valuation τ sig (Elt Ideal) := StableHlo.after hostOps1_13 (R13 m c)

/-- After line 14. -/
abbrev R15 : Valuation τ sig (Elt Ideal) := StableHlo.after hostOps1_14 (R14 m c)

/-- After line 15. -/
abbrev R16 : Valuation τ sig (Elt Ideal) := StableHlo.after hostOps1_15 (R15 m c)

/-- Line 0 keeps what it does not write. -/
theorem keep0 (r : Ref sig .tc) (h : r ∉ hostOps1_W) : R1 m c (Proc.devRef .tc r) = R0 m c (Proc.devRef .tc r) :=
  StableHlo.after_of_writes_sub (r := r) hostOps1 _ hostOps1_writes h

/-- Line 1 keeps what it does not write. -/
theorem keep1 (r : Ref sig .tc) (h : r ∉ hostOps1_1_W) : R2 m c (Proc.devRef .tc r) = R1 m c (Proc.devRef .tc r) :=
  StableHlo.after_of_writes_sub (r := r) hostOps1_1 _ hostOps1_1_writes h

/-- Line 2 keeps what it does not write. -/
theorem keep2 (r : Ref sig .tc) (h : r ∉ hostOps1_2_W) : R3 m c (Proc.devRef .tc r) = R2 m c (Proc.devRef .tc r) :=
  StableHlo.after_of_writes_sub (r := r) hostOps1_2 _ hostOps1_2_writes h

/-- Line 3 keeps what it does not write. -/
theorem keep3 (r : Ref sig .tc) (h : r ∉ hostOps1_3_W) : R4 m c (Proc.devRef .tc r) = R3 m c (Proc.devRef .tc r) :=
  StableHlo.after_of_writes_sub (r := r) hostOps1_3 _ hostOps1_3_writes h

/-- Line 4 keeps what it does not write. -/
theorem keep4 (r : Ref sig .tc) (h : r ∉ hostOps1_4_W) : R5 m c (Proc.devRef .tc r) = R4 m c (Proc.devRef .tc r) :=
  StableHlo.after_of_writes_sub (r := r) hostOps1_4 _ hostOps1_4_writes h

/-- Line 5 keeps what it does not write. -/
theorem keep5 (r : Ref sig .tc) (h : r ∉ hostOps1_5_W) : R6 m c (Proc.devRef .tc r) = R5 m c (Proc.devRef .tc r) :=
  StableHlo.after_of_writes_sub (r := r) hostOps1_5 _ hostOps1_5_writes h

/-- Line 6 keeps what it does not write. -/
theorem keep6 (r : Ref sig .tc) (h : r ∉ hostOps1_6_W) : R7 m c (Proc.devRef .tc r) = R6 m c (Proc.devRef .tc r) :=
  StableHlo.after_of_writes_sub (r := r) hostOps1_6 _ hostOps1_6_writes h

/-- Line 7 keeps what it does not write. -/
theorem keep7 (r : Ref sig .tc) (h : r ∉ hostOps1_7_W) : R8 m c (Proc.devRef .tc r) = R7 m c (Proc.devRef .tc r) :=
  StableHlo.after_of_writes_sub (r := r) hostOps1_7 _ hostOps1_7_writes h

/-- Line 8 keeps what it does not write. -/
theorem keep8 (r : Ref sig .tc) (h : r ∉ hostOps1_8_W) : R9 m c (Proc.devRef .tc r) = R8 m c (Proc.devRef .tc r) :=
  StableHlo.after_of_writes_sub (r := r) hostOps1_8 _ hostOps1_8_writes h

/-- Line 9 keeps what it does not write. -/
theorem keep9 (r : Ref sig .tc) (h : r ∉ hostOps1_9_W) : R10 m c (Proc.devRef .tc r) = R9 m c (Proc.devRef .tc r) :=
  StableHlo.after_of_writes_sub (r := r) hostOps1_9 _ hostOps1_9_writes h

/-- Line 10 keeps what it does not write. -/
theorem keep10 (r : Ref sig .tc) (h : r ∉ hostOps1_10_W) : R11 m c (Proc.devRef .tc r) = R10 m c (Proc.devRef .tc r) :=
  StableHlo.after_of_writes_sub (r := r) hostOps1_10 _ hostOps1_10_writes h

/-- Line 11 keeps what it does not write. -/
theorem keep11 (r : Ref sig .tc) (h : r ∉ hostOps1_11_W) : R12 m c (Proc.devRef .tc r) = R11 m c (Proc.devRef .tc r) :=
  StableHlo.after_of_writes_sub (r := r) hostOps1_11 _ hostOps1_11_writes h

/-- Line 12 keeps what it does not write. -/
theorem keep12 (r : Ref sig .tc) (h : r ∉ hostOps1_12_W) : R13 m c (Proc.devRef .tc r) = R12 m c (Proc.devRef .tc r) :=
  StableHlo.after_of_writes_sub (r := r) hostOps1_12 _ hostOps1_12_writes h

/-- Line 13 keeps what it does not write. -/
theorem keep13 (r : Ref sig .tc) (h : r ∉ hostOps1_13_W) : R14 m c (Proc.devRef .tc r) = R13 m c (Proc.devRef .tc r) :=
  StableHlo.after_of_writes_sub (r := r) hostOps1_13 _ hostOps1_13_writes h

/-- Line 14 keeps what it does not write. -/
theorem keep14 (r : Ref sig .tc) (h : r ∉ hostOps1_14_W) : R15 m c (Proc.devRef .tc r) = R14 m c (Proc.devRef .tc r) :=
  StableHlo.after_of_writes_sub (r := r) hostOps1_14 _ hostOps1_14_writes h

/-- Line 15 keeps what it does not write. -/
theorem keep15 (r : Ref sig .tc) (h : r ∉ hostOps1_15_W) : R16 m c (Proc.devRef .tc r) = R15 m c (Proc.devRef .tc r) :=
  StableHlo.after_of_writes_sub (r := r) hostOps1_15 _ hostOps1_15_writes h

/-- The rows. -/
abbrev argX : FVec Ideal S8x384x6144 .bf16 := m ((c : Thread nD τ).loc main_arg0)
/-- The head's weights. -/
abbrev argWH : S5120x6144.Idx → EReal := m ((c : Thread nD τ).loc main_arg1)
/-- The head's scales. -/
abbrev argSH : FVec Ideal S5120 .f32 := m ((c : Thread nD τ).loc main_arg2)
/-- The tail's packed weights. -/
abbrev argWT : S60416x3072.Idx → BitVec 8 := m ((c : Thread nD τ).loc main_arg3)
/-- The tail's scales. -/
abbrev argST : FVec Ideal S60416x48 .bf16 := m ((c : Thread nD τ).loc main_arg4)
/-- The targets. -/
abbrev argTG : S8x384.Idx → BitVec 32 := m ((c : Thread nD τ).loc main_arg5)

/-- The head's capped logits. -/
def headLogits : FVec Ideal S8x384x5120 .f32 := headCap (argX m c) (argWH m c) (argSH m c)

/-- The tail's capped logits. -/
def tailLogits : FVec Ideal S8x384x60416 .f32 :=
  tailCap (argX m c) (scaled (signed (lowHalf (argWT m c))) (argST m c)) (scaled (signed (highHalf (bytes (argWT m c)))) (argST m c))

/-- The logarithm of both tiers' sums. -/
def logits : FVec Ideal S8x384 .f32 := both (headLse (headLogits m c)) (tailLse (tailLogits m c))

/-- The call leaves the arguments. -/
theorem R0_of (r : Ref sig .tc) (h : ∀ w, Pipeline.arrRef spec0 w ≠ r) : R0 m c (Proc.devRef .tc r) = m ((c : Thread nD τ).loc r) :=
  Pipeline.withArrays_of_ne _ c (V0 m c) _ r h

/-- The call's result. -/
theorem R0_v0 : R0 m c (Proc.devRef .tc main_v0) = argWH m c :=
  (Pipeline.withArrays_arr (cfgs 0).spec (by decide) c (V0 m c) (fun w => (dats m 0 c).arrAt w (cfgs 0).N) 1).trans (widen_final m c)

/-- Argument 0 before line 0. -/
theorem R0_arg0 : R0 m c (Proc.devRef .tc main_arg0) = argX m c := by
  exact R0_of m c main_arg0 (by decide)

/-- Argument 0 before line 4. -/
theorem R4_arg0 : R4 m c (Proc.devRef .tc main_arg0) = argX m c := by
  rw [keep3 m c main_arg0 (by decide), keep2 m c main_arg0 (by decide), keep1 m c main_arg0 (by decide), keep0 m c main_arg0 (by decide)]
  exact R0_of m c main_arg0 (by decide)

/-- Argument 2 before line 0. -/
theorem R0_arg2 : R0 m c (Proc.devRef .tc main_arg2) = argSH m c := by
  exact R0_of m c main_arg2 (by decide)

/-- Argument 3 before line 0. -/
theorem R0_arg3 : R0 m c (Proc.devRef .tc main_arg3) = argWT m c := by
  exact R0_of m c main_arg3 (by decide)

/-- Argument 4 before line 2. -/
theorem R2_arg4 : R2 m c (Proc.devRef .tc main_arg4) = argST m c := by
  rw [keep1 m c main_arg4 (by decide), keep0 m c main_arg4 (by decide)]
  exact R0_of m c main_arg4 (by decide)

/-- Argument 4 before line 4. -/
theorem R4_arg4 : R4 m c (Proc.devRef .tc main_arg4) = argST m c := by
  rw [keep3 m c main_arg4 (by decide), keep2 m c main_arg4 (by decide), keep1 m c main_arg4 (by decide), keep0 m c main_arg4 (by decide)]
  exact R0_of m c main_arg4 (by decide)

/-- Argument 5 before line 5. -/
theorem R5_arg5 : R5 m c (Proc.devRef .tc main_arg5) = argTG m c := by
  rw [keep4 m c main_arg5 (by decide), keep3 m c main_arg5 (by decide), keep2 m c main_arg5 (by decide), keep1 m c main_arg5 (by decide), keep0 m c main_arg5 (by decide)]
  exact R0_of m c main_arg5 (by decide)

/-- Argument 5 before line 6. -/
theorem R6_arg5 : R6 m c (Proc.devRef .tc main_arg5) = argTG m c := by
  rw [keep5 m c main_arg5 (by decide), keep4 m c main_arg5 (by decide), keep3 m c main_arg5 (by decide), keep2 m c main_arg5 (by decide), keep1 m c main_arg5 (by decide), keep0 m c main_arg5 (by decide)]
  exact R0_of m c main_arg5 (by decide)

/-- Argument 5 before line 12. -/
theorem R12_arg5 : R12 m c (Proc.devRef .tc main_arg5) = argTG m c := by
  rw [keep11 m c main_arg5 (by decide), keep10 m c main_arg5 (by decide), keep9 m c main_arg5 (by decide), keep8 m c main_arg5 (by decide), keep7 m c main_arg5 (by decide), keep6 m c main_arg5 (by decide), keep5 m c main_arg5 (by decide), keep4 m c main_arg5 (by decide), keep3 m c main_arg5 (by decide), keep2 m c main_arg5 (by decide), keep1 m c main_arg5 (by decide), keep0 m c main_arg5 (by decide)]
  exact R0_of m c main_arg5 (by decide)

/-- Argument 5 before line 14. -/
theorem R14_arg5 : R14 m c (Proc.devRef .tc main_arg5) = argTG m c := by
  rw [keep13 m c main_arg5 (by decide), keep12 m c main_arg5 (by decide), keep11 m c main_arg5 (by decide), keep10 m c main_arg5 (by decide), keep9 m c main_arg5 (by decide), keep8 m c main_arg5 (by decide), keep7 m c main_arg5 (by decide), keep6 m c main_arg5 (by decide), keep5 m c main_arg5 (by decide), keep4 m c main_arg5 (by decide), keep3 m c main_arg5 (by decide), keep2 m c main_arg5 (by decide), keep1 m c main_arg5 (by decide), keep0 m c main_arg5 (by decide)]
  exact R0_of m c main_arg5 (by decide)

/-- The head's logits. -/
theorem R1_v9 : R1 m c (Proc.devRef .tc main_v9) = headLogits m c := by
  refine (line0_v9 (R0 m c)).trans ?_
  rw [R0_arg0, R0_v0, R0_arg2]
  rfl

/-- The bytes. -/
theorem R1_v10 : R1 m c (Proc.devRef .tc main_v10) = bytes (argWT m c) := by
  refine (line0_v10 (R0 m c)).trans ?_
  rw [R0_arg3]

/-- The low halves. -/
theorem R1_v12 : R1 m c (Proc.devRef .tc main_v12) = lowHalf (argWT m c) := by
  refine (line0_v12 (R0 m c)).trans ?_
  rw [R0_arg3]

/-- Which stand for negative numbers. -/
theorem R1_v14 : R1 m c (Proc.devRef .tc main_v14) = cmpi .sge (lowHalf (argWT m c)) (along 8#32) := by
  refine (line0_v14 (R0 m c)).trans ?_
  rw [R0_arg3]

/-- Those less 16. -/
theorem R1_v16 : R1 m c (Proc.devRef .tc main_v16) = subi (lowHalf (argWT m c)) (along 16#32) := by
  refine (line0_v16 (R0 m c)).trans ?_
  rw [R0_arg3]

/-- The low numbers. -/
theorem R2_v17 : R2 m c (Proc.devRef .tc main_v17) = signed (lowHalf (argWT m c)) := by
  refine (line1_v17 (R1 m c)).trans ?_
  rw [R1_v14, R1_v16, R1_v12]
  rfl

/-- The low numbers scaled. -/
theorem R3_v23 : R3 m c (Proc.devRef .tc main_v23) = scaled (signed (lowHalf (argWT m c))) (argST m c) := by
  refine (line2_v23 (R2 m c)).trans ?_
  rw [R2_v17, R2_arg4]

/-- The high halves. -/
theorem R3_v25 : R3 m c (Proc.devRef .tc main_v25) = highHalf (bytes (argWT m c)) := by
  refine (line2_v25 (R2 m c)).trans ?_
  rw [keep1 m c main_v10 (by decide), R1_v10]

/-- Which stand for negative numbers. -/
theorem R3_v27 : R3 m c (Proc.devRef .tc main_v27) = cmpi .sge (highHalf (bytes (argWT m c))) (along 8#32) := by
  refine (line2_v27 (R2 m c)).trans ?_
  rw [keep1 m c main_v10 (by decide), R1_v10]

/-- Those less 16. -/
theorem R3_v29 : R3 m c (Proc.devRef .tc main_v29) = subi (highHalf (bytes (argWT m c))) (along 16#32) := by
  refine (line2_v29 (R2 m c)).trans ?_
  rw [keep1 m c main_v10 (by decide), R1_v10]

/-- The high numbers. -/
theorem R4_v30 : R4 m c (Proc.devRef .tc main_v30) = signed (highHalf (bytes (argWT m c))) := by
  refine (line3_v30 (R3 m c)).trans ?_
  rw [R3_v27, R3_v29, R3_v25]
  rfl

/-- The tail's logits. -/
theorem R5_v46 : R5 m c (Proc.devRef .tc main_v46) = tailLogits m c := by
  refine (line4_v46 (R4 m c)).trans ?_
  rw [R4_arg0, keep3 m c main_v23 (by decide), R3_v23, R4_v30, R4_arg4]
  rfl

/-- The logarithm of the head's sum. -/
theorem R5_v54 : R5 m c (Proc.devRef .tc main_v54) = headLse (headLogits m c) := by
  refine (line4_v54 (R4 m c)).trans ?_
  rw [keep3 m c main_v9 (by decide), keep2 m c main_v9 (by decide), keep1 m c main_v9 (by decide), R1_v9]

/-- The logarithm of the tail's sum. -/
theorem R5_v62 : R5 m c (Proc.devRef .tc main_v62) = tailLse (tailLogits m c) := by
  refine (line4_v62 (R4 m c)).trans ?_
  rw [R4_arg0, keep3 m c main_v23 (by decide), R3_v23, R4_v30, R4_arg4]
  rfl

/-- The logarithm of both. -/
theorem R5_v72 : R5 m c (Proc.devRef .tc main_v72) = logits m c := by
  refine (line4_v72 (R4 m c)).trans ?_
  rw [keep3 m c main_v9 (by decide), keep2 m c main_v9 (by decide), keep1 m c main_v9 (by decide), R1_v9, R4_arg0, keep3 m c main_v23 (by decide), R3_v23, R4_v30, R4_arg4]
  rfl

/-- The least index. -/
theorem R5_c12 : R5 m c (Proc.devRef .tc main_c_12) = constantI S_ 32 0#32 := by
  refine (line4_c12 (R4 m c)).trans ?_
  rfl

/-- The greatest index. -/
theorem R5_c13 : R5 m c (Proc.devRef .tc main_c_13) = constantI S_ 32 5119#32 := by
  refine (line4_c13 (R4 m c)).trans ?_
  rfl

/-- The head's indices. -/
theorem R6_v73 : R6 m c (Proc.devRef .tc main_v73) = clipped 0#32 5119#32 (argTG m c) := by
  refine (line5_v73 (R5 m c)).trans ?_
  rw [R5_c12, R5_c13, R5_arg5]
  rfl

/-- The targets from the tail's first index. -/
theorem R7_v75 : R7 m c (Proc.devRef .tc main_v75) = subi (argTG m c) (perRow 5120#32) := by
  refine (line6_v75 (R6 m c)).trans ?_
  rw [R6_arg5]

/-- The least index. -/
theorem R7_c15 : R7 m c (Proc.devRef .tc main_c_15) = constantI S_ 32 0#32 := by
  refine (line6_c15 (R6 m c)).trans ?_
  rfl

/-- The greatest index. -/
theorem R7_c16 : R7 m c (Proc.devRef .tc main_c_16) = constantI S_ 32 60415#32 := by
  refine (line6_c16 (R6 m c)).trans ?_
  rfl

/-- The tail's indices. -/
theorem R8_v76 : R8 m c (Proc.devRef .tc main_v76) = clipped 0#32 60415#32 (subi (argTG m c) (perRow 5120#32)) := by
  refine (line7_v76 (R7 m c)).trans ?_
  rw [R7_c15, R7_c16, R7_v75]
  rfl

/-- The head's indices as a column. -/
theorem R9_v77 : R9 m c (Proc.devRef .tc main_v77) = column (clipped 0#32 5119#32 (argTG m c)) := by
  refine (line8_v77 (R8 m c)).trans ?_
  rw [keep7 m c main_v73 (by decide), keep6 m c main_v73 (by decide), R6_v73]

/-- The head's entries. -/
theorem R10_v78 : R10 m c (Proc.devRef .tc main_v78) = headTake (headLogits m c) (column (clipped 0#32 5119#32 (argTG m c))) := by
  refine (line9_v78 (R9 m c)).trans ?_
  rw [keep8 m c main_v9 (by decide), keep7 m c main_v9 (by decide), keep6 m c main_v9 (by decide), keep5 m c main_v9 (by decide), keep4 m c main_v9 (by decide), keep3 m c main_v9 (by decide), keep2 m c main_v9 (by decide), keep1 m c main_v9 (by decide), R1_v9, R9_v77]

/-- Those, a row each. -/
theorem R11_v79 : R11 m c (Proc.devRef .tc main_v79) = shapeCast S8x384 (headTake (headLogits m c) (column (clipped 0#32 5119#32 (argTG m c)))) shapeCasts_S8x384x1_S8x384 := by
  refine (line10_v79 (R10 m c)).trans ?_
  rw [R10_v78]

/-- The tail's indices as a column. -/
theorem R11_v80 : R11 m c (Proc.devRef .tc main_v80) = column (clipped 0#32 60415#32 (subi (argTG m c) (perRow 5120#32))) := by
  refine (line10_v80 (R10 m c)).trans ?_
  rw [keep9 m c main_v76 (by decide), keep8 m c main_v76 (by decide), R8_v76]

/-- The tail's entries. -/
theorem R12_v81 : R12 m c (Proc.devRef .tc main_v81) = tailTake (tailLogits m c) (column (clipped 0#32 60415#32 (subi (argTG m c) (perRow 5120#32)))) := by
  refine (line11_v81 (R11 m c)).trans ?_
  rw [keep10 m c main_v46 (by decide), keep9 m c main_v46 (by decide), keep8 m c main_v46 (by decide), keep7 m c main_v46 (by decide), keep6 m c main_v46 (by decide), keep5 m c main_v46 (by decide), R5_v46, R11_v80]

/-- Those, a row each. -/
theorem R13_v82 : R13 m c (Proc.devRef .tc main_v82) = shapeCast S8x384 (tailTake (tailLogits m c) (column (clipped 0#32 60415#32 (subi (argTG m c) (perRow 5120#32))))) shapeCasts_S8x384x1_S8x384 := by
  refine (line12_v82 (R12 m c)).trans ?_
  rw [R12_v81]

/-- Which targets are the head's. -/
theorem R13_v84 : R13 m c (Proc.devRef .tc main_v84) = cmpi .slt (argTG m c) (perRow 5120#32) := by
  refine (line12_v84 (R12 m c)).trans ?_
  rw [R12_arg5]

/-- The target's entry. -/
theorem R14_v85 : R14 m c (Proc.devRef .tc main_v85) = select (cmpi .slt (argTG m c) (perRow 5120#32)) (shapeCast S8x384 (headTake (headLogits m c) (column (clipped 0#32 5119#32 (argTG m c)))) shapeCasts_S8x384x1_S8x384) (shapeCast S8x384 (tailTake (tailLogits m c) (column (clipped 0#32 60415#32 (subi (argTG m c) (perRow 5120#32))))) shapeCasts_S8x384x1_S8x384) := by
  refine (line13_v85 (R13 m c)).trans ?_
  rw [R13_v84, keep12 m c main_v79 (by decide), keep11 m c main_v79 (by decide), R11_v79, R13_v82]

/-- Which targets count. -/
theorem R15_v87 : R15 m c (Proc.devRef .tc main_v87) = cmpi .sge (argTG m c) (perRow 0#32) := by
  refine (line14_v87 (R14 m c)).trans ?_
  rw [R14_arg5]

/-- The target's entry less the logarithm. -/
theorem R15_v88 : R15 m c (Proc.devRef .tc main_v88) = subf (F := Ideal) (φ := .f32) (select (cmpi .slt (argTG m c) (perRow 5120#32)) (shapeCast S8x384 (headTake (headLogits m c) (column (clipped 0#32 5119#32 (argTG m c)))) shapeCasts_S8x384x1_S8x384) (shapeCast S8x384 (tailTake (tailLogits m c) (column (clipped 0#32 60415#32 (subi (argTG m c) (perRow 5120#32))))) shapeCasts_S8x384x1_S8x384)) (logits m c) := by
  refine (line14_v88 (R14 m c)).trans ?_
  rw [R14_v85, keep13 m c main_v72 (by decide), keep12 m c main_v72 (by decide), keep11 m c main_v72 (by decide), keep10 m c main_v72 (by decide), keep9 m c main_v72 (by decide), keep8 m c main_v72 (by decide), keep7 m c main_v72 (by decide), keep6 m c main_v72 (by decide), keep5 m c main_v72 (by decide), R5_v72]

/-- The value of a target that does not count. -/
theorem R15_cst : R15 m c (Proc.devRef .tc main_cst_19) = constant (F := Ideal) S_ .f32 0x00000000#32 := by
  refine (line14_cst (R14 m c)).trans ?_
  rfl

/-- The log probabilities. -/
theorem R16_v89 : R16 m c (Proc.devRef .tc main_v89) = prob (argTG m c) (headTake (headLogits m c) (column (clipped 0#32 5119#32 (argTG m c)))) (tailTake (tailLogits m c) (column (clipped 0#32 60415#32 (subi (argTG m c) (perRow 5120#32))))) (logits m c) := by
  refine (line15_v89 (R15 m c)).trans ?_
  rw [R15_v87, R15_v88, R15_cst]
  rfl

/-- The logarithm of both sums, at the end. -/
theorem R16_v72 : R16 m c (Proc.devRef .tc main_v72) = logits m c := by
  rw [keep15 m c main_v72 (by decide), keep14 m c main_v72 (by decide), keep13 m c main_v72 (by decide), keep12 m c main_v72 (by decide), keep11 m c main_v72 (by decide), keep10 m c main_v72 (by decide), keep9 m c main_v72 (by decide), keep8 m c main_v72 (by decide), keep7 m c main_v72 (by decide), keep6 m c main_v72 (by decide), keep5 m c main_v72 (by decide), R5_v72]

/-- The logarithm of the head's sum, at the end. -/
theorem R16_v54 : R16 m c (Proc.devRef .tc main_v54) = headLse (headLogits m c) := by
  rw [keep15 m c main_v54 (by decide), keep14 m c main_v54 (by decide), keep13 m c main_v54 (by decide), keep12 m c main_v54 (by decide), keep11 m c main_v54 (by decide), keep10 m c main_v54 (by decide), keep9 m c main_v54 (by decide), keep8 m c main_v54 (by decide), keep7 m c main_v54 (by decide), keep6 m c main_v54 (by decide), keep5 m c main_v54 (by decide), R5_v54]

/-- The logarithm of the tail's sum, at the end. -/
theorem R16_v62 : R16 m c (Proc.devRef .tc main_v62) = tailLse (tailLogits m c) := by
  rw [keep15 m c main_v62 (by decide), keep14 m c main_v62 (by decide), keep13 m c main_v62 (by decide), keep12 m c main_v62 (by decide), keep11 m c main_v62 (by decide), keep10 m c main_v62 (by decide), keep9 m c main_v62 (by decide), keep8 m c main_v62 (by decide), keep7 m c main_v62 (by decide), keep6 m c main_v62 (by decide), keep5 m c main_v62 (by decide), R5_v62]

/-- The end of the lines, as the run states it, is the last of these. -/
theorem end_eq (r : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] c r = R16 m c (Proc.devRef .tc r) := by
  unfold Pipeline.afterTail₀
  simp only [List.flatten_cons, List.flatten_nil, List.append_nil, StableHlo.after_append]
  rfl

variable (ρ : Dev nD → PrngReg)

/-- From any memory with zero counters every run of the reference ends, with its results' arrays at what the lines leave in
    them and its arguments unchanged. -/
theorem run : θ_run defs (onTc (τ := τ) (main (F := Ideal))) ⟨m, fun _ => 0, ρ⟩ (fun r => (∀ c : Dev nD,
      r.2.mem ((c.tc : Thread nD τ).loc main_v72) = R16 m c (Proc.devRef .tc main_v72)
      ∧ r.2.mem ((c.tc : Thread nD τ).loc main_v89) = R16 m c (Proc.devRef .tc main_v89)
      ∧ r.2.mem ((c.tc : Thread nD τ).loc main_v54) = R16 m c (Proc.devRef .tc main_v54)
      ∧ r.2.mem ((c.tc : Thread nD τ).loc main_v62) = R16 m c (Proc.devRef .tc main_v62))
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_and ((θ_run defs _ _).mono (fun _ h c =>
    ⟨((h c).2 main_v72 (Pipeline.mem_restRefs_of main_v72 (by decide) (by decide))).trans (end_eq m c main_v72),
     ((h c).2 main_v89 (Pipeline.mem_restRefs_of main_v89 (by decide) (by decide))).trans (end_eq m c main_v89),
     ((h c).2 main_v54 (Pipeline.mem_restRefs_of main_v54 (by decide) (by decide))).trans (end_eq m c main_v54),
     ((h c).2 main_v62 (Pipeline.mem_restRefs_of main_v62 (by decide) (by decide))).trans (end_eq m c main_v62)⟩) (run_main m ρ))
    (unchanged m ρ)

end Cert.ReferenceIdeal.Value

end
-- ==== Proof.RefLogits.lean ====
/-
  The reference's capped logits at an index: 30 times the same capped logits the kernel computes.
-/
module

public import proofs.«01_k».proof.Proof.RefFold
public import proofs.«01_k».proof.Proof.Spec
public import Idealize.ShloMosaic.Lib.IdealHost
public import Idealize.ShloMosaic.Lib.Pointwise

@[expose] public section

set_option maxRecDepth 16384

noncomputable section

open Idealize.ShloMosaic hiding ix1 ix2 ix3
open Idealize.ShloMosaic.ValueIdx

namespace Cert.ReferenceIdeal.Value

open Cert.ReferenceIdeal Cert.ReferenceIdeal.Gen Cert.Spec
open Cert.KernelIdeal.Value (capped lowNum highNum)

/-- 30, as the programs write it. -/
abbrev c30 : EReal := Ideal.ofBits .f32 0x41F00000#32

/-- The head's product. -/
theorem headDot_apply (X : FVec Ideal S8x384x6144 .bf16) (W : FVec Ideal S5120x6144 .bf16) (b : Fin 8) (t : Fin 384) (n : Fin 5120) :
    (Host.dotGeneral dot_S8x384x6144_S5120x6144_S8x384x5120_2_1_01_0_n_n none X W : FVec Ideal S8x384x5120 .f32) (ix3 b t n)
      = ∑ k : Fin 6144, X (ix3 b t k) * W (ix2 n k) := by
  pointwise
  rfl

/-- The tail's products. -/
theorem tailDot_apply (X : FVec Ideal S8x384x3072 .bf16) (W : FVec Ideal S60416x3072 .bf16) (b : Fin 8) (t : Fin 384) (n : Fin 60416) :
    (Host.dotGeneral dot_S8x384x3072_S60416x3072_S8x384x60416_2_1_01_0_n_n none X W : FVec Ideal S8x384x60416 .f32) (ix3 b t n)
      = ∑ k : Fin 3072, X (ix3 b t k) * W (ix2 n k) := by
  pointwise
  rfl

/-- A word along the tail's bytes. -/
theorem along_apply (w : BitVec 32) (j : S60416x3072.Idx) : along w j = w := broadcastInDim_scalar_apply _ _ j

/-- A low half as a signed number is a sixteenth of the byte moved up by four bits. -/
theorem low_word : ∀ B : BitVec 8, (B <<< 4).toInt
    = 16 * (Scalar.select (IntOp.cmpi .sge (IntOp.andi (BitVec.setWidth 32 B) 15#32) 8#32) (IntOp.subi (IntOp.andi (BitVec.setWidth 32 B) 15#32) 16#32) (IntOp.andi (BitVec.setWidth 32 B) 15#32)).toInt := by
  decide +kernel

/-- A high half as a signed number is a sixteenth of the byte without its low half. -/
theorem high_word : ∀ B : BitVec 8, (B &&& 240#8).toInt
    = 16 * (Scalar.select (IntOp.cmpi .sge (Host.shrsi (s := S1) (fun _ => BitVec.setWidth 32 B) (fun _ => 4#32) (ix1 0)) 8#32) (IntOp.subi (Host.shrsi (s := S1) (fun _ => BitVec.setWidth 32 B) (fun _ => 4#32) (ix1 0)) 16#32) (Host.shrsi (s := S1) (fun _ => BitVec.setWidth 32 B) (fun _ => 4#32) (ix1 0))).toInt := by
  decide +kernel

/-- Sixteen times a number, times a sixteenth. -/
theorem sixteenth (n : Int) : (((16 * n : Int) : ℝ) : EReal) * Ideal.ofBits .bf16 0x3D80#16 = ((n : ℝ) : EReal) := by
  rw [Ideal.ofBits_sixteenth_bf16, ← EReal.coe_mul]
  congr 1
  push_cast
  ring

/-- The reference's low numbers are the kernel's. -/
theorem lowSigned_apply (B : S60416x3072.Idx → BitVec 8) (j : S60416x3072.Idx) : (((signed (lowHalf B) j).toInt : ℝ) : EReal) = lowNum (B j) := by
  unfold lowNum
  rw [low_word, sixteenth]
  show (((Scalar.select (IntOp.cmpi .sge (IntOp.andi (BitVec.setWidth 32 (B j)) (along 15#32 j)) (along 8#32 j)) (IntOp.subi (IntOp.andi (BitVec.setWidth 32 (B j)) (along 15#32 j)) (along 16#32 j)) (IntOp.andi (BitVec.setWidth 32 (B j)) (along 15#32 j))).toInt : ℝ) : EReal) = _
  rw [along_apply, along_apply, along_apply]

/-- The reference's high numbers are the kernel's. -/
theorem highSigned_apply (B : S60416x3072.Idx → BitVec 8) (j : S60416x3072.Idx) : (((signed (highHalf (bytes B)) j).toInt : ℝ) : EReal) = highNum (B j) := by
  unfold highNum
  rw [high_word, sixteenth]
  show (((Scalar.select (IntOp.cmpi .sge (Host.shrsi (s := S1) (fun _ => BitVec.setWidth 32 (B j)) (fun _ => along 4#32 j) (ix1 0)) (along 8#32 j)) (IntOp.subi (Host.shrsi (s := S1) (fun _ => BitVec.setWidth 32 (B j)) (fun _ => along 4#32 j) (ix1 0)) (along 16#32 j)) (Host.shrsi (s := S1) (fun _ => BitVec.setWidth 32 (B j)) (fun _ => along 4#32 j) (ix1 0))).toInt : ℝ) : EReal) = _
  rw [along_apply, along_apply, along_apply]

/-- The numbers scaled, at an index. -/
theorem scaled_apply (N : S60416x3072.Idx → BitVec 32) (S : FVec Ideal S60416x48 .bf16) (n : Fin 60416) (j : Fin 3072) :
    scaled N S (ix2 n j) = (((N (ix2 n j)).toInt : ℝ) : EReal) * S (ix2 n (scaleOf j)) := by
  have hj := j.isLt
  unfold scaled
  refine (shapeCast_apply _ _ (ix2 n j) (ix3 n (scaleOf j) (⟨j.val % 64, by omega⟩ : Fin 64)) (by
    rw [Shape.rowMajor_val_three, Shape.rowMajor_val_two]
    show (n.val * 48 + j.val / 64) * 64 + j.val % 64 = n.val * 3072 + j.val
    omega)).trans ?_
  show FloatOps.mulf (F := Ideal) (φ := .bf16) _ _ = _
  refine congrArg₂ (fun a b : EReal => a * b) ?_ ?_
  · refine (shapeCast_apply _ _ (ix3 n (scaleOf j) (⟨j.val % 64, by omega⟩ : Fin 64)) (ix2 n j) (by
      rw [Shape.rowMajor_val_three, Shape.rowMajor_val_two]
      show n.val * 3072 + j.val = (n.val * 48 + j.val / 64) * 64 + j.val % 64
      omega)).trans rfl
  · refine (broadcastInDim_apply _ _ _ _ (ix3 n (scaleOf j) (0 : Fin 1)) ?_).trans (broadcastInDim_apply _ _ _ _ (ix2 n (scaleOf j)) ?_)
    · intro a; match a with
      | ⟨0, _⟩ => rfl
      | ⟨1, _⟩ => rfl
      | ⟨2, _⟩ => rfl
    · intro a; match a with
      | ⟨0, _⟩ => rfl
      | ⟨1, _⟩ => rfl

/-- The head's capped logits, at an index. -/
theorem headCap_apply (X : FVec Ideal S8x384x6144 .bf16) (W : FVec Ideal S5120x6144 .bf16) (S : FVec Ideal S5120 .f32) (b : Fin 8) (t : Fin 384) (n : Fin 5120) :
    headCap X W S (ix3 b t n) = c30 * headAt X W S b t n := by
  unfold headCap
  show (broadcastInDim S8x384x5120 ![] bcast_S_S8x384x5120 (constant (F := Ideal) S_ .f32 0x41F00000#32) (ix3 b t n) : EReal)
    * Ideal.tanh (((Host.dotGeneral dot_S8x384x6144_S5120x6144_S8x384x5120_2_1_01_0_n_n none X W : FVec Ideal S8x384x5120 .f32) (ix3 b t n)
        * (broadcastInDim S8x384x5120 ![0, 1, 2] bcast_S1x1x5120_S8x384x5120_0_1_2 (broadcastInDim S1x1x5120 ![2] bcast_S5120_S1x1x5120_2 S) (ix3 b t n) : EReal))
      * (broadcastInDim S8x384x5120 ![] bcast_S_S8x384x5120 (constant (F := Ideal) S_ .f32 0x3D088889#32) (ix3 b t n) : EReal)) = _
  rw [broadcastInDim_scalar_apply, broadcastInDim_scalar_apply, headDot_apply,
    show broadcastInDim S8x384x5120 ![0, 1, 2] bcast_S1x1x5120_S8x384x5120_0_1_2 (broadcastInDim S1x1x5120 ![2] bcast_S5120_S1x1x5120_2 S) (ix3 b t n) = S (ix1 n) from
      (broadcastInDim_apply _ _ _ _ (ix3 (0 : Fin 1) (0 : Fin 1) n) (fun a => match a with
        | ⟨0, _⟩ => rfl
        | ⟨1, _⟩ => rfl
        | ⟨2, _⟩ => rfl)).trans (broadcastInDim_apply _ _ _ _ (ix1 n) (fun a => match a with | ⟨0, _⟩ => rfl))]
  rfl

/-- The tail's capped logits, at an index. -/
theorem tailCap_apply (X : FVec Ideal S8x384x6144 .bf16) (L H : FVec Ideal S60416x3072 .bf16) (b : Fin 8) (t : Fin 384) (n : Fin 60416) :
    tailCap X L H (ix3 b t n) = c30 * capped ((∑ j : Fin 3072, X (ix3 b t (evenCh j)) * L (ix2 n j)) + ∑ j : Fin 3072, X (ix3 b t (oddCh j)) * H (ix2 n j)) := by
  unfold tailCap
  show (broadcastInDim S8x384x60416 ![] bcast_S_S8x384x60416 (constant (F := Ideal) S_ .f32 0x41F00000#32) (ix3 b t n) : EReal)
    * Ideal.tanh (((Host.dotGeneral dot_S8x384x3072_S60416x3072_S8x384x60416_2_1_01_0_n_n none
          (Host.slice S8x384x3072 ![0, 0, 0] ![1, 1, 2] X slicesBy_S8x384x6144_S8x384x3072_0s1_0s1_0s2) L : FVec Ideal S8x384x60416 .f32) (ix3 b t n)
        + (Host.dotGeneral dot_S8x384x3072_S60416x3072_S8x384x60416_2_1_01_0_n_n none
          (Host.slice S8x384x3072 ![0, 0, 1] ![1, 1, 2] X slicesBy_S8x384x6144_S8x384x3072_0s1_0s1_1s2) H : FVec Ideal S8x384x60416 .f32) (ix3 b t n))
      * (broadcastInDim S8x384x60416 ![] bcast_S_S8x384x60416 (constant (F := Ideal) S_ .f32 0x3D088889#32) (ix3 b t n) : EReal)) = _
  rw [broadcastInDim_scalar_apply, broadcastInDim_scalar_apply, tailDot_apply, tailDot_apply]
  have he : ∀ j : Fin 3072, Host.slice S8x384x3072 ![0, 0, 0] ![1, 1, 2] X slicesBy_S8x384x6144_S8x384x3072_0s1_0s1_0s2 (ix3 b t j) = X (ix3 b t (evenCh j)) :=
    fun j => congrArg X (funext fun a => match a with
      | ⟨0, _⟩ => Fin.ext (show 0 + 1 * b.val = b.val by omega)
      | ⟨1, _⟩ => Fin.ext (show 0 + 1 * t.val = t.val by omega)
      | ⟨2, _⟩ => Fin.ext (show 0 + 2 * j.val = 2 * j.val by omega))
  have ho : ∀ j : Fin 3072, Host.slice S8x384x3072 ![0, 0, 1] ![1, 1, 2] X slicesBy_S8x384x6144_S8x384x3072_0s1_0s1_1s2 (ix3 b t j) = X (ix3 b t (oddCh j)) :=
    fun j => congrArg X (funext fun a => match a with
      | ⟨0, _⟩ => Fin.ext (show 0 + 1 * b.val = b.val by omega)
      | ⟨1, _⟩ => Fin.ext (show 0 + 1 * t.val = t.val by omega)
      | ⟨2, _⟩ => Fin.ext (show 1 + 2 * j.val = 2 * j.val + 1 by omega))
  rw [Finset.sum_congr rfl fun j _ => congrArg (fun e : EReal => e * L (ix2 n j)) (he j),
    Finset.sum_congr rfl fun j _ => congrArg (fun e : EReal => e * H (ix2 n j)) (ho j)]
  rfl

variable (m : (ℓ : Loc nD τ sig) → Buf (Elt Ideal) ℓ) (c : Dev nD)

/-- The reference's head logits. -/
theorem headLogits_apply (b : Fin 8) (t : Fin 384) (n : Fin 5120) :
    headLogits m c (ix3 b t n) = c30 * headAt (argX m c) (argWH m c) (argSH m c) b t n := headCap_apply _ _ _ b t n

/-- The reference's tail logits. -/
theorem tailLogits_apply (b : Fin 8) (t : Fin 384) (n : Fin 60416) :
    tailLogits m c (ix3 b t n) = c30 * tailAt (argX m c) (argWT m c) (argST m c) b t n := by
  unfold tailLogits tailAt
  rw [tailCap_apply]
  refine congrArg (fun e => c30 * capped e) (congrArg₂ (fun a b : EReal => a + b) ?_ ?_)
  · exact Finset.sum_congr rfl fun j _ => by rw [scaled_apply, lowSigned_apply]
  · exact Finset.sum_congr rfl fun j _ => by rw [scaled_apply, highSigned_apply]

end Cert.ReferenceIdeal.Value

end
-- ==== Proof.LogSum.lean ====
/-
  The arithmetic of the results over the extended reals: capped logits are real numbers, the exponentials the kernel takes
  as powers of two are those of 30 times the capped logit, a logarithm of a sum of exponentials may be taken about any
  number, and the logarithm of two sums' sum is found from their logarithms.
-/
module

public import proofs.«01_k».proof.Proof.Spec

@[expose] public section

noncomputable section

open Idealize.ShloMosaic

namespace Cert.Spec

open Cert.KernelIdeal.Value (capped expd)

/-- The word 30. -/
theorem thirty : Ideal.ofBits .f32 0x41F00000#32 = ((30 : ℝ) : EReal) := by
  simp [Ideal.ofBits, Ideal.ieee, -EReal.coe_mul]; norm_num

/-- A capped logit is a real number. -/
theorem capped_real (l : EReal) : ∃ r : ℝ, capped l = (r : EReal) := by
  unfold capped
  induction l * Ideal.ofBits .f32 0x3D088889#32 using EReal.rec with
  | bot => exact ⟨-1, by rw [Ideal.tanh_bot]; rfl⟩
  | coe r => exact ⟨Real.tanh r, rfl⟩
  | top => exact ⟨1, by rw [Ideal.tanh_top]; rfl⟩

/-- The exponential taken as a power of two. -/
theorem expd_coe (r : ℝ) : expd (r : EReal) = ((Real.exp (30 * r) : ℝ) : EReal) := by
  unfold expd
  rw [← EReal.coe_mul, Ideal.exp2_coe]
  congr 1
  show (2 : ℝ) ^ (r * (30 * (Real.log 2)⁻¹)) = _
  rw [Real.rpow_def_of_pos (by norm_num)]
  congr 1
  have h : Real.log 2 ≠ 0 := (Real.log_pos (by norm_num)).ne'
  field_simp

/-- A finite sum of real numbers among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A tier's sum of exponentials as a real number. -/
theorem total_coe {N : Nat} (T : Fin N → EReal) (r : Fin N → ℝ) (h : ∀ n, T n = (r n : EReal)) :
    total T = ((∑ n, Real.exp (30 * r n) : ℝ) : EReal) := by
  unfold total
  rw [← sum_coe]
  exact Finset.sum_congr rfl fun n _ => by rw [h, expd_coe]

/-- The greatest of some real numbers, found from the least extended real on, is a real number. -/
theorem top_real {N : Nat} (hN : 0 < N) (f : Fin N → ℝ) : ∃ r : ℝ, (Finset.univ : Finset (Fin N)).fold max (⊥ : EReal) (fun n => (f n : EReal)) = (r : EReal) := by
  obtain ⟨i, _, hi⟩ := Finset.exists_mem_eq_sup (Finset.univ : Finset (Fin N)) ⟨⟨0, hN⟩, Finset.mem_univ _⟩ (fun n => (f n : EReal))
  exact ⟨f i, hi⟩

/-- The logarithm of a sum of exponentials, about any number. -/
theorem log_about {N : Nat} (hN : 0 < N) (x : Fin N → ℝ) (M : ℝ) :
    M + Real.log (∑ n, Real.exp (x n - M)) = Real.log (∑ n, Real.exp (x n)) := by
  have hpos : 0 < ∑ n, Real.exp (x n) := Finset.sum_pos (fun n _ => Real.exp_pos _) ⟨⟨0, hN⟩, Finset.mem_univ _⟩
  have : ∑ n, Real.exp (x n - M) = (∑ n, Real.exp (x n)) * Real.exp (-M) := by
    rw [Finset.sum_mul]
    exact Finset.sum_congr rfl fun n _ => by rw [sub_eq_add_neg, Real.exp_add]
  rw [this, Real.log_mul hpos.ne' (Real.exp_pos _).ne', Real.log_exp]
  ring

/-- The logarithm of a positive number. -/
theorem log_pos_coe {a : ℝ} (ha : 0 < a) : Ideal.log (a : EReal) = ((Real.log a : ℝ) : EReal) := by
  rw [Ideal.log_coe, if_neg (not_le.mpr ha)]

/-- The logarithm of a sum of exponentials about the greatest of them, as the extended reals compute it. -/
theorem lse_about {N : Nat} (hN : 0 < N) (T : Fin N → EReal) (hT : ∀ n, ∃ r : ℝ, T n = (r : EReal)) (x : Fin N → EReal)
    (hx : ∀ n, x n = ((30 : ℝ) : EReal) * T n) :
    (Finset.univ : Finset (Fin N)).fold max (⊥ : EReal) x
        + Ideal.log (0 + ∑ n, Ideal.exp (x n - (Finset.univ : Finset (Fin N)).fold max (⊥ : EReal) x))
      = Ideal.log (total T) := by
  choose r hr using hT
  have hx' : x = fun n => ((30 * r n : ℝ) : EReal) := funext fun n => by rw [hx, hr, EReal.coe_mul]
  subst hx'
  obtain ⟨M, hM⟩ := top_real hN fun n => 30 * r n
  rw [hM, total_coe T r hr]
  have hs : ∀ n, Ideal.exp (((30 * r n : ℝ) : EReal) - (M : EReal)) = ((Real.exp (30 * r n - M) : ℝ) : EReal) := fun n => by
    rw [← EReal.coe_sub, Ideal.exp_coe]
  have hne : (Finset.univ : Finset (Fin N)).Nonempty := ⟨⟨0, hN⟩, Finset.mem_univ _⟩
  rw [Finset.sum_congr rfl fun n _ => hs n, sum_coe, zero_add, log_pos_coe (Finset.sum_pos (fun n _ => Real.exp_pos _) hne),
    log_pos_coe (Finset.sum_pos (fun n _ => Real.exp_pos _) hne), ← EReal.coe_add, log_about hN]

/-- Two positive numbers' logarithms and the logarithm of their sum. -/
theorem log_add {A B : ℝ} (hA : 0 < A) (hB : 0 < B) :
    max (Real.log A) (Real.log B) + Real.log (1 + Real.exp (-|Real.log A - Real.log B|)) = Real.log (A + B) := by
  wlog h : B ≤ A generalizing A B with H
  · rw [max_comm, abs_sub_comm, H hB hA (le_of_not_ge h), add_comm]
  have hl : Real.log B ≤ Real.log A := Real.log_le_log hB h
  rw [max_eq_left hl, abs_of_nonneg (sub_nonneg.mpr hl), neg_sub, Real.exp_sub, Real.exp_log hA, Real.exp_log hB,
    ← Real.log_mul hA.ne' (by positivity)]
  congr 1
  field_simp

/-- The same among the extended reals. -/
theorem both_logs {A B : ℝ} (hA : 0 < A) (hB : 0 < B) :
    max (Ideal.log (A : EReal)) (Ideal.log (B : EReal))
        + Ideal.log1p (Ideal.exp (-(max (Ideal.log (A : EReal) - Ideal.log (B : EReal)) (-(Ideal.log (A : EReal) - Ideal.log (B : EReal))))))
      = Ideal.log ((A : EReal) + (B : EReal)) := by
  rw [log_pos_coe hA, log_pos_coe hB, ← EReal.coe_add, log_pos_coe (add_pos hA hB), ← EReal.coe_sub, ← EReal.coe_neg,
    ← EReal.coe_strictMono.monotone.map_max, ← EReal.coe_strictMono.monotone.map_max, ← EReal.coe_neg, Ideal.exp_coe]
  unfold Ideal.log1p
  rw [← EReal.coe_one, ← EReal.coe_add, log_pos_coe (by positivity), ← EReal.coe_add]
  exact congrArg _ (log_add hA hB)

/-- A tier's sum of exponentials is a positive real number. -/
theorem total_pos {N : Nat} (hN : 0 < N) (T : Fin N → EReal) (hT : ∀ n, ∃ r : ℝ, T n = (r : EReal)) :
    ∃ A : ℝ, 0 < A ∧ total T = (A : EReal) := by
  choose r hr using hT
  exact ⟨_, Finset.sum_pos (fun n _ => Real.exp_pos _) ⟨⟨0, hN⟩, Finset.mem_univ _⟩, total_coe T r hr⟩

end Cert.Spec

end
-- ==== Proof.RefLse.lean ====
/-
  The reference's logarithms of sums at a row: each tier's is the logarithm of the tier's sum of exponentials, and the one
  of both is that of both sums.
-/
module

public import proofs.«01_k».proof.Proof.RefLogits
public import proofs.«01_k».proof.Proof.LogSum
public import Idealize.ShloMosaic.PureOps.Ideal.Laws

@[expose] public section

set_option maxRecDepth 16384

noncomputable section

open Idealize.ShloMosaic hiding ix1 ix2 ix3
open Idealize.ShloMosaic.ValueIdx

namespace Cert.ReferenceIdeal.Value

open Cert.ReferenceIdeal Cert.ReferenceIdeal.Gen Cert.Spec

/-- The word the greatest logit is sought from is the least extended real. -/
theorem least : Ideal.ofBits .f32 0xFF800000#32 = ⊥ := by simp [Ideal.ofBits, Ideal.ieee]

/-- A number and a logarithm added. -/
theorem addLog_apply (u v : FVec Ideal S8x384 .f32) (j : S8x384.Idx) : addf u (Host.log v) j = (u j : EReal) + Ideal.log (v j) := rfl

section Tier

variable {N : Nat} (h' : (⟨3, ![8, 384, N]⟩ : Shape).ReducesTo [2] S8x384) (h : (⟨3, ![8, 384, N]⟩ : Shape).Reduces [2] S8x384)

/-- A tier's logits along a row. -/
theorem lift_row (b : Fin 8) (t : Fin 384) (n : Fin N) : h.lift (ix2 b t) n = ix3 b t n :=
  funext fun a => match a with
  | ⟨0, _⟩ => rfl
  | ⟨1, _⟩ => rfl
  | ⟨2, _⟩ => rfl

/-- A tier's greatest logit of each row. -/
def rowTop (x : FVec Ideal ⟨3, ![8, 384, N]⟩ .f32) : FVec Ideal S8x384 .f32 :=
  Host.reduce FloatOps.maximumf x (constant (F := Ideal) S_ .f32 0xFF800000#32) h' h_S_

include h in
/-- The greatest logit of a row. -/
theorem rowTop_apply (x : FVec Ideal ⟨3, ![8, 384, N]⟩ .f32) (b : Fin 8) (t : Fin 384) :
    rowTop h' x (ix2 b t) = (Finset.univ : Finset (Fin N)).fold max (⊥ : EReal) (fun n => (x (ix3 b t n) : EReal)) := by
  unfold rowTop
  rw [Host.reduce_eq_fold_single (FloatOps.maximumf (F := Ideal) (φ := .f32)) x _ _ h _ _, ← least]
  exact congrArg (fun f : Fin N → EReal => (Finset.univ : Finset (Fin N)).fold max (Ideal.ofBits .f32 0xFF800000#32) f)
    (funext fun n => congrArg x (lift_row h b t n))

/-- A tier's exponentials about each row's greatest logit. -/
def rowExp (hb : S8x384x1.BroadcastsInDim ⟨3, ![8, 384, N]⟩ ![0, 1, 2]) (x : FVec Ideal ⟨3, ![8, 384, N]⟩ .f32) : FVec Ideal ⟨3, ![8, 384, N]⟩ .f32 :=
  Host.exp (subf x (broadcastInDim ⟨3, ![8, 384, N]⟩ ![0, 1, 2] hb (broadcastInDim S8x384x1 ![0, 1] bcast_S8x384_S8x384x1_0_1 (rowTop h' x))))

/-- An exponential about the row's greatest logit. -/
theorem rowExp_apply (hb : S8x384x1.BroadcastsInDim ⟨3, ![8, 384, N]⟩ ![0, 1, 2]) (x : FVec Ideal ⟨3, ![8, 384, N]⟩ .f32)
    (b : Fin 8) (t : Fin 384) (n : Fin N) : rowExp h' hb x (ix3 b t n) = Ideal.exp ((x (ix3 b t n) : EReal) - rowTop h' x (ix2 b t)) := by
  unfold rowExp
  generalize rowTop h' x = top
  refine congrArg (fun e : EReal => Ideal.exp ((x (ix3 b t n) : EReal) - e)) ?_
  exact (broadcastInDim_apply _ _ _ _ (ix3 b t (0 : Fin 1)) (fun a => match a with
    | ⟨0, _⟩ => rfl
    | ⟨1, _⟩ => rfl
    | ⟨2, _⟩ => rfl)).trans (broadcastInDim_apply _ _ _ _ (ix2 b t) (fun a => match a with
    | ⟨0, _⟩ => rfl
    | ⟨1, _⟩ => rfl))

/-- A tier's logarithm of each row's sum of exponentials, about the greatest logit. -/
def rowLse (hb : S8x384x1.BroadcastsInDim ⟨3, ![8, 384, N]⟩ ![0, 1, 2]) (x : FVec Ideal ⟨3, ![8, 384, N]⟩ .f32) : FVec Ideal S8x384 .f32 :=
  addf (rowTop h' x) (Host.log (Host.reduceAdd (rowExp h' hb x) (constant (F := Ideal) S_ .f32 0x00000000#32) h' h_S_))

include h in
/-- The sum of a row's entries. -/
theorem rowSum_apply (y : FVec Ideal ⟨3, ![8, 384, N]⟩ .f32) (b : Fin 8) (t : Fin 384) :
    (Host.reduceAdd y (constant (F := Ideal) S_ .f32 0x00000000#32) h' h_S_ : FVec Ideal S8x384 .f32) (ix2 b t)
      = 0 + ∑ n : Fin N, (y (ix3 b t n) : EReal) := by
  rw [hostReduceAdd_apply, Ideal.hostReduceAdd_single h' h]
  exact congrArg₂ (fun u v : EReal => u + v) Ideal.ofBits_zero_f32 (Finset.sum_congr rfl fun n _ => congrArg y (lift_row h b t n))

include h in
/-- The logarithm of a row's sum, when the logits are 30 times real numbers. -/
theorem rowLse_apply (hN : 0 < N) (hb : S8x384x1.BroadcastsInDim ⟨3, ![8, 384, N]⟩ ![0, 1, 2]) (x : FVec Ideal ⟨3, ![8, 384, N]⟩ .f32)
    (b : Fin 8) (t : Fin 384) (T : Fin N → EReal) (hT : ∀ n, ∃ r : ℝ, T n = (r : EReal)) (hx : ∀ n, x (ix3 b t n) = c30 * T n) :
    rowLse h' hb x (ix2 b t) = Ideal.log (total T) := by
  rw [← lse_about hN T hT (fun n => x (ix3 b t n)) (fun n => (hx n).trans (by unfold c30; rw [thirty])), ← rowTop_apply h' h,
    ← Finset.sum_congr rfl fun n _ => rowExp_apply h' hb x b t n, ← rowSum_apply h' h]
  exact addLog_apply _ _ _

end Tier

/-- The head's logarithms of sums. -/
theorem headLse_eq (x : FVec Ideal S8x384x5120 .f32) :
    headLse x = rowLse (N := 5120) reducesTo_S8x384x5120_S8x384_d2 bcast_S8x384x1_S8x384x5120_0_1_2 x := by
  unfold headLse rowLse headTop rowTop; rfl

/-- The tail's logarithms of sums. -/
theorem tailLse_eq (x : FVec Ideal S8x384x60416 .f32) :
    tailLse x = rowLse (N := 60416) reducesTo_S8x384x60416_S8x384_d2 bcast_S8x384x1_S8x384x60416_0_1_2 x := by
  unfold tailLse rowLse tailTop rowTop; rfl

/-- The last axis of the head's logits reduces away. -/
theorem headReduces : S8x384x5120.Reduces [2] S8x384 := by decide

/-- The last axis of the tail's logits reduces away. -/
theorem tailReduces : S8x384x60416.Reduces [2] S8x384 := by decide

/-- A number never differs from itself. -/
theorem une_self (e : EReal) : Ideal.cmp .une e e = 0#1 := by simp [Ideal.cmp]

/-- The logarithm of both sums from the two logarithms. -/
theorem both_apply (u v : FVec Ideal S8x384 .f32) (j : S8x384.Idx) {A B : ℝ} (hA : 0 < A) (hB : 0 < B)
    (hu : u j = Ideal.log (A : EReal)) (hv : v j = Ideal.log (B : EReal)) : both u v j = Ideal.log ((A : EReal) + (B : EReal)) := by
  rw [← both_logs hA hB, ← hu, ← hv]
  show Scalar.select (Ideal.cmp .une ((u j : EReal) - v j) ((u j : EReal) - v j)) _ _ = _
  rw [une_self]
  rfl

variable (m : (ℓ : Loc nD τ sig) → Buf (Elt Ideal) ℓ) (c : Dev nD)

/-- A row's head logits over 30. -/
abbrev headRow (b : Fin 8) (t : Fin 384) : Fin 5120 → EReal := headAt (argX m c) (argWH m c) (argSH m c) b t

/-- A row's tail logits over 30. -/
abbrev tailRow (b : Fin 8) (t : Fin 384) : Fin 60416 → EReal := tailAt (argX m c) (argWT m c) (argST m c) b t

/-- The head's logarithm of a row's sum. -/
theorem headLse_row (b : Fin 8) (t : Fin 384) : headLse (headLogits m c) (ix2 b t) = Ideal.log (total (headRow m c b t)) :=
  (congrFun (headLse_eq _) _).trans (rowLse_apply _ headReduces (by norm_num) _ _ b t _ (fun _ => capped_real _) (headLogits_apply m c b t))

/-- The tail's logarithm of a row's sum. -/
theorem tailLse_row (b : Fin 8) (t : Fin 384) : tailLse (tailLogits m c) (ix2 b t) = Ideal.log (total (tailRow m c b t)) :=
  (congrFun (tailLse_eq _) _).trans (rowLse_apply _ tailReduces (by norm_num) _ _ b t _ (fun _ => capped_real _) (tailLogits_apply m c b t))

/-- The logarithm of both sums of a row. -/
theorem logits_row (b : Fin 8) (t : Fin 384) : logits m c (ix2 b t) = lseOf (headRow m c b t) (tailRow m c b t) := by
  obtain ⟨A, hA, eA⟩ := total_pos (by norm_num) (headRow m c b t) fun _ => capped_real _
  obtain ⟨B, hB, eB⟩ := total_pos (by norm_num) (tailRow m c b t) fun _ => capped_real _
  unfold logits lseOf
  rw [eA, eB]
  exact both_apply _ _ _ hA hB ((headLse_row m c b t).trans (by rw [eA])) ((tailLse_row m c b t).trans (by rw [eB]))

end Cert.ReferenceIdeal.Value

end
-- ==== Proof.RefTake.lean ====
/-
  The reference's reads of the logits at the targets: along a row of a tier, an index inside the tier is read there.
-/
module

public import proofs.«01_k».proof.Proof.RefLse

@[expose] public section

set_option maxRecDepth 16384

noncomputable section

open Idealize.ShloMosaic hiding ix0 ix1 ix2 ix3 ix4
open Idealize.ShloMosaic.ValueIdx

namespace Cert.ReferenceIdeal.Value

open Cert.ReferenceIdeal Cert.ReferenceIdeal.Gen Cert.Spec

/-- Reading along the last axis, one index a row. -/
abbrev rowGather (N : Nat)
    (wf : GatherDims.WF ⟨3, ![8, 384, N]⟩ S8x384x1x1 S8x384x1 [] [2] [0, 1] [2] [0, 1] 3 ![1, 1, 1]) :
    GatherDims ⟨3, ![8, 384, N]⟩ S8x384x1x1 S8x384x1 where
  offsetDims := []
  collapsedSliceDims := [2]
  operandBatchingDims := [0, 1]
  startIndicesBatchingDims := [0, 1]
  startIndexMap := [2]
  indexVectorDim := 3
  sliceSizes := ![1, 1, 1]
  wf := wf

/-- What is read: the row's entry at the index, held inside the row. -/
theorem rowGather_apply {N : Nat} (hN : 0 < N)
    (wf : GatherDims.WF ⟨3, ![8, 384, N]⟩ S8x384x1x1 S8x384x1 [] [2] [0, 1] [2] [0, 1] 3 ![1, 1, 1])
    (x : FVec Ideal ⟨3, ![8, 384, N]⟩ .f32) (idx : S8x384x1x1.Idx → BitVec 32) (b : Fin 8) (t : Fin 384) :
    Host.gather (rowGather N wf) x idx (ix3 b t (0 : Fin 1))
      = x (ix3 b t ⟨min (idx (ix4 b t (0 : Fin 1) (0 : Fin 1))).toInt.toNat (N - 1), by omega⟩) := by
  unfold Host.gather
  refine congrArg x (funext fun a => Fin.ext ?_)
  show (rowGather N wf).start (ix3 b t (0 : Fin 1)) idx a + (rowGather N wf).batchCoord (ix3 b t (0 : Fin 1)) a
      + (rowGather N wf).offCoord (ix3 b t (0 : Fin 1)) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by simp), GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp), GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (rowGather N wf).startIndexMap from List.mem_singleton.mpr rfl)]
    have hsi : (rowGather N wf).siIdx (ix3 b t (0 : Fin 1)) ⟨List.idxOf (2 : Fin 3) (rowGather N wf).startIndexMap,
        List.idxOf_lt_length_iff.2 (List.mem_singleton.mpr rfl)⟩ = ix4 b t (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

/-- An index that is not negative is not counted from the end. -/
theorem fromEnd_apply (len : BitVec 32) (i : S8x384x1.Idx → BitVec 32) (b : Fin 8) (t : Fin 384)
    (h0 : 0 ≤ (i (ix3 b t (0 : Fin 1))).toInt) : fromEnd len i (ix4 b t (0 : Fin 1) (0 : Fin 1)) = i (ix3 b t (0 : Fin 1)) := by
  unfold fromEnd
  refine (shapeCast_apply _ _ (ix4 b t (0 : Fin 1) (0 : Fin 1)) (ix3 b t (0 : Fin 1)) (by
    rw [Shape.rowMajor_val_three, Shape.rowMajor_val_four]
    show (b.val * 384 + t.val) * 1 + 0 = ((b.val * 384 + t.val) * 1 + 0) * 1 + 0
    omega)).trans ?_
  show Scalar.select (IntOp.cmpi .slt (i (ix3 b t (0 : Fin 1))) (broadcastInDim S8x384x1 ![] bcast_S_S8x384x1 (constantI S_ 32 0#32) (ix3 b t (0 : Fin 1)))) _ _ = _
  rw [broadcastInDim_scalar_apply]
  have : IntOp.cmpi .slt (i (ix3 b t (0 : Fin 1))) (constantI S_ 32 0#32 ix0) = 0#1 := by
    show BitVec.ofBool (BitVec.slt _ 0#32) = 0#1
    rw [BitVec.slt_eq_decide, decide_eq_false (by simpa using h0)]
    rfl
  rw [this]
  rfl

/-- The last axis of the indices reduces away. -/
theorem columnReduces : S8x384x1x1.Reduces [3] S8x384x1 := by decide

/-- One truth value conjoined. -/
theorem fold_one (f : Fin 1 → BitVec 1) : (Finset.univ : Finset (Fin 1)).fold IntOp.andi 1#1 f = IntOp.andi (f 0) 1#1 := Finset.fold_singleton

/-- A row's single truth value conjoined. -/
theorem conj_apply (y : S8x384x1x1.Idx → BitVec 1) (b : Fin 8) (t : Fin 384) :
    Host.reduce IntOp.andi y (constantI S_ 1 1#1) reducesTo_S8x384x1x1_S8x384x1_d3 h_S_ (ix3 b t (0 : Fin 1)) = IntOp.andi (y (ix4 b t (0 : Fin 1) (0 : Fin 1))) 1#1 := by
  refine (Host.reduce_eq_fold_single (IntOp.andi (w := 1)) y _ _ columnReduces _ _).trans ?_
  have hl : columnReduces.lift (ix3 b t (0 : Fin 1)) (0 : Fin 1) = ix4 b t (0 : Fin 1) (0 : Fin 1) := funext fun a => match a with
    | ⟨0, _⟩ => rfl
    | ⟨1, _⟩ => rfl
    | ⟨2, _⟩ => rfl
    | ⟨3, _⟩ => rfl
  exact (fold_one _).trans (congrArg (fun j => IntOp.andi (y j) 1#1) hl)

/-- An index inside counts as inside. -/
theorem inside_apply (last : BitVec 32) (i : S8x384x1x1.Idx → BitVec 32) (b : Fin 8) (t : Fin 384)
    (h0 : 0 ≤ (i (ix4 b t (0 : Fin 1) (0 : Fin 1))).toInt) (h1 : (i (ix4 b t (0 : Fin 1) (0 : Fin 1))).toInt ≤ last.toInt) :
    inside last i (ix3 b t (0 : Fin 1)) = 1#1 := by
  unfold inside
  rw [conj_apply]
  show IntOp.andi (IntOp.andi (IntOp.cmpi .sge (i (ix4 b t (0 : Fin 1) (0 : Fin 1))) (broadcastInDim S8x384x1x1 ![] bcast_S_S8x384x1x1 (constantI S_ 32 0#32) (ix4 b t (0 : Fin 1) (0 : Fin 1))))
    (IntOp.cmpi .sle (i (ix4 b t (0 : Fin 1) (0 : Fin 1))) last)) 1#1 = 1#1
  rw [broadcastInDim_scalar_apply]
  have e0 : IntOp.cmpi .sge (i (ix4 b t (0 : Fin 1) (0 : Fin 1))) (constantI S_ 32 0#32 ix0) = 1#1 := by
    show BitVec.ofBool (BitVec.sle 0#32 _) = 1#1
    rw [BitVec.sle_eq_decide, decide_eq_true (by simpa using h0)]
    rfl
  have e1 : IntOp.cmpi .sle (i (ix4 b t (0 : Fin 1) (0 : Fin 1))) last = 1#1 := by
    show BitVec.ofBool (BitVec.sle _ _) = 1#1
    rw [BitVec.sle_eq_decide, decide_eq_true h1]
    rfl
  rw [e0, e1]
  rfl

/-- A tier's entry at an index inside the tier. -/
theorem take_apply {N : Nat} (hN : 0 < N)
    (wf : GatherDims.WF ⟨3, ![8, 384, N]⟩ S8x384x1x1 S8x384x1 [] [2] [0, 1] [2] [0, 1] 3 ![1, 1, 1]) (last len : BitVec 32)
    (hl : last.toInt = (N : Int) - 1) (x : FVec Ideal ⟨3, ![8, 384, N]⟩ .f32) (i : S8x384x1.Idx → BitVec 32) (b : Fin 8) (t : Fin 384)
    (n : Fin N) (hn : (i (ix3 b t (0 : Fin 1))).toInt = n.val) :
    (select (inside last (fromEnd len i)) (Host.gather (rowGather N wf) x (fromEnd len i)) missing : FVec Ideal S8x384x1 .f32) (ix3 b t (0 : Fin 1))
      = x (ix3 b t n) := by
  have hlt := n.isLt
  have hf := fromEnd_apply len i b t (by omega)
  show Scalar.select (inside last (fromEnd len i) (ix3 b t (0 : Fin 1))) (Host.gather (rowGather N wf) x (fromEnd len i) (ix3 b t (0 : Fin 1))) _ = _
  rw [inside_apply _ _ b t (by rw [hf]; omega) (by rw [hf]; omega), rowGather_apply hN]
  refine congrArg (fun k : Fin N => x (ix3 b t k)) (Fin.ext ?_)
  show min (fromEnd len i (ix4 b t (0 : Fin 1) (0 : Fin 1))).toInt.toNat (N - 1) = n.val
  rw [hf]
  omega

/-- The head's entry at an index inside the head. -/
theorem headTake_apply (x : FVec Ideal S8x384x5120 .f32) (i : S8x384x1.Idx → BitVec 32) (b : Fin 8) (t : Fin 384)
    (n : Fin 5120) (hn : (i (ix3 b t (0 : Fin 1))).toInt = n.val) : headTake x i (ix3 b t (0 : Fin 1)) = x (ix3 b t n) :=
  take_apply (by norm_num) gather_S8x384x5120_S8x384x1x1_S8x384x1_n_2_01_01_2_3_111.wf 5119#32 5120#32 (by decide) x i b t n hn

/-- The tail's entry at an index inside the tail. -/
theorem tailTake_apply (x : FVec Ideal S8x384x60416 .f32) (i : S8x384x1.Idx → BitVec 32) (b : Fin 8) (t : Fin 384)
    (n : Fin 60416) (hn : (i (ix3 b t (0 : Fin 1))).toInt = n.val) : tailTake x i (ix3 b t (0 : Fin 1)) = x (ix3 b t n) :=
  take_apply (by norm_num) gather_S8x384x60416_S8x384x1x1_S8x384x1_n_2_01_01_2_3_111.wf 60415#32 60416#32 (by decide) x i b t n hn

end Cert.ReferenceIdeal.Value

end
-- ==== Proof.RefProb.lean ====
/-
  The reference's log probability of the target at a row, for targets inside the vocabulary (or negative): the target's
  logit, read from the tier it lies in, less the logarithm of both sums.
-/
module

public import proofs.«01_k».proof.Proof.RefTake

@[expose] public section

set_option maxRecDepth 16384

noncomputable section

open Idealize.ShloMosaic hiding ix0 ix1 ix2 ix3 ix4
open Idealize.ShloMosaic.ValueIdx

namespace Cert.ReferenceIdeal.Value

open Cert.ReferenceIdeal Cert.ReferenceIdeal.Gen Cert.Spec

/-- What a tier adds to the picked value when the target is its entry `n`. -/
theorem picked_hit {N : Nat} (tg : BitVec 32) (base : Nat) (T : Fin N → EReal) (hN : base + N < 2 ^ 32) (n : Fin N)
    (h : tg.toNat = base + n.val) : picked tg base T = T n := by
  unfold picked
  rw [Finset.sum_eq_single n]
  · rw [if_pos]
    apply BitVec.eq_of_toNat_eq
    have := n.isLt
    rw [h, BitVec.toNat_ofNat, Nat.mod_eq_of_lt (by omega)]
  · intro k _ hk
    rw [if_neg]
    intro he
    have hb := congrArg BitVec.toNat he
    have := k.isLt
    rw [h, BitVec.toNat_ofNat, Nat.mod_eq_of_lt (by omega)] at hb
    exact hk (Fin.ext (by omega))
  · intro hn; exact absurd (Finset.mem_univ n) hn

/-- What a tier adds to the picked value when the target is no entry of it. -/
theorem picked_miss {N : Nat} (tg : BitVec 32) (base : Nat) (T : Fin N → EReal) (hN : base + N < 2 ^ 32)
    (h : tg.toNat < base ∨ base + N ≤ tg.toNat) : picked tg base T = 0 := by
  unfold picked
  refine Finset.sum_eq_zero fun k _ => if_neg fun he => ?_
  have hb := congrArg BitVec.toNat he
  have := k.isLt
  rw [BitVec.toNat_ofNat, Nat.mod_eq_of_lt (by omega)] at hb
  omega

/-- A word for every row, at a row. -/
theorem perRow_apply (w : BitVec 32) (j : S8x384.Idx) : perRow w j = w := broadcastInDim_scalar_apply _ _ j

/-- A clipped word that was already inside. -/
theorem clip_word (w hi : BitVec 32) (h0 : 0 ≤ w.toInt) (h1 : w.toInt ≤ hi.toInt) : IntOp.minsi hi (IntOp.maxsi 0#32 w) = w := by
  have hm : IntOp.maxsi 0#32 w = w := by
    unfold IntOp.maxsi
    rw [BitVec.slt_eq_decide, decide_eq_false (by simpa using h0)]
    rfl
  rw [hm]
  unfold IntOp.minsi
  rcases lt_or_eq_of_le h1 with hlt | heq
  · rw [BitVec.slt_eq_decide, decide_eq_false (by omega)]
    rfl
  · rw [BitVec.slt_eq_decide, decide_eq_false (by omega)]
    rfl

/-- A column's entry. -/
theorem column_apply (i : S8x384.Idx → BitVec 32) (b : Fin 8) (t : Fin 384) : column i (ix3 b t (0 : Fin 1)) = i (ix2 b t) :=
  broadcastInDim_apply _ _ _ _ (ix2 b t) (fun a => match a with
    | ⟨0, _⟩ => rfl
    | ⟨1, _⟩ => rfl)

/-- Indices inside are not moved by clipping. -/
theorem clipped_apply (hi : BitVec 32) (i : S8x384.Idx → BitVec 32) (b : Fin 8) (t : Fin 384) (h0 : 0 ≤ (i (ix2 b t)).toInt)
    (h1 : (i (ix2 b t)).toInt ≤ hi.toInt) : column (clipped 0#32 hi i) (ix3 b t (0 : Fin 1)) = i (ix2 b t) := by
  rw [column_apply]
  unfold clipped
  show IntOp.minsi (perRow hi (ix2 b t)) (IntOp.maxsi (perRow 0#32 (ix2 b t)) (i (ix2 b t))) = _
  rw [perRow_apply, perRow_apply, clip_word _ _ h0 h1]

/-- The log probability at a row. -/
theorem prob_apply (tg : S8x384.Idx → BitVec 32) (h l : FVec Ideal S8x384x1 .f32) (s : FVec Ideal S8x384 .f32) (b : Fin 8) (t : Fin 384) :
    prob tg h l s (ix2 b t) = Scalar.select (IntOp.cmpi .sge (tg (ix2 b t)) 0#32)
      ((Scalar.select (IntOp.cmpi .slt (tg (ix2 b t)) 5120#32) (h (ix3 b t (0 : Fin 1))) (l (ix3 b t (0 : Fin 1))) : EReal) - s (ix2 b t)) (0 : EReal) := by
  have hc : ∀ y : FVec Ideal S8x384x1 .f32, shapeCast S8x384 y shapeCasts_S8x384x1_S8x384 (ix2 b t) = y (ix3 b t (0 : Fin 1)) := fun y =>
    shapeCast_apply _ _ (ix2 b t) (ix3 b t (0 : Fin 1)) (by
      rw [Shape.rowMajor_val_three, Shape.rowMajor_val_two]
      show (b.val * 384 + t.val) * 1 + 0 = b.val * 384 + t.val
      omega)
  have hz : broadcastInDim S8x384 ![] bcast_S_S8x384 (constant (F := Ideal) S_ .f32 0x00000000#32) (ix2 b t) = (0 : EReal) :=
    (broadcastInDim_scalar_apply _ _ _).trans Ideal.ofBits_zero_f32
  rw [← hc h, ← hc l, ← hz]
  show Scalar.select (IntOp.cmpi .sge (tg (ix2 b t)) (perRow 0#32 (ix2 b t)))
      ((Scalar.select (IntOp.cmpi .slt (tg (ix2 b t)) (perRow 5120#32 (ix2 b t))) _ _ : EReal) - _) _ = _
  rw [perRow_apply, perRow_apply]

/-- Whether a word is not negative. -/
theorem sge_word (w : BitVec 32) : IntOp.cmpi .sge w 0#32 = BitVec.ofBool (decide (0 ≤ w.toInt)) := by
  show BitVec.ofBool (BitVec.sle 0#32 w) = _
  rw [BitVec.sle_eq_decide]
  rfl

/-- Whether a word is in the head. -/
theorem slt_word (w : BitVec 32) : IntOp.cmpi .slt w 5120#32 = BitVec.ofBool (decide (w.toInt < 5120)) := by
  show BitVec.ofBool (BitVec.slt w 5120#32) = _
  rw [BitVec.slt_eq_decide]
  rfl

/-- A word that is not negative reads the same with and without sign. -/
theorem toInt_toNat (w : BitVec 32) (h : 0 ≤ w.toInt) : w.toInt = w.toNat := by
  rw [BitVec.toInt_eq_toNat_cond] at h ⊢
  have := w.isLt
  split_ifs at h ⊢ with hc
  · rfl
  · omega

/-- A target in the tail, counted from the tail's first index. -/
theorem sub_word (w : BitVec 32) (h0 : 5120 ≤ w.toInt) (h1 : w.toInt < 65536) : (IntOp.subi w 5120#32).toInt = w.toInt - 5120 := by
  have hn := toInt_toNat w (by omega)
  have hw : w.toNat < 65536 := by omega
  show (w - 5120#32).toInt = _
  have hs : (w - 5120#32).toNat = w.toNat - 5120 := by
    rw [BitVec.toNat_sub]
    show (2 ^ 32 - 5120 + w.toNat) % 2 ^ 32 = _
    omega
  rw [BitVec.toInt_eq_toNat_of_lt (by omega), hs]
  omega

variable (m : (ℓ : Loc nD τ sig) → Buf (Elt Ideal) ℓ) (c : Dev nD)

/-- The log probability of a row's target below the vocabulary's end. -/
theorem prob_row (b : Fin 8) (t : Fin 384) (hv : (argTG m c (ix2 b t)).toInt < 65536) :
    prob (argTG m c) (headTake (headLogits m c) (column (clipped 0#32 5119#32 (argTG m c))))
        (tailTake (tailLogits m c) (column (clipped 0#32 60415#32 (subi (argTG m c) (perRow 5120#32))))) (logits m c) (ix2 b t)
      = probOf (headRow m c b t) (tailRow m c b t) (argTG m c (ix2 b t)) := by
  rw [prob_apply, logits_row]
  unfold probOf
  by_cases h0 : 0 ≤ (argTG m c (ix2 b t)).toInt
  swap
  · rw [sge_word, decide_eq_false h0]
    rfl
  have hn := toInt_toNat _ h0
  refine congrArg (fun e : EReal => Scalar.select (IntOp.cmpi .sge (argTG m c (ix2 b t)) 0#32) (e - lseOf (headRow m c b t) (tailRow m c b t)) (0 : EReal)) ?_
  by_cases h1 : (argTG m c (ix2 b t)).toInt < 5120
  · have hlt : (argTG m c (ix2 b t)).toNat < 5120 := by omega
    rw [picked_hit _ 0 _ (by norm_num) ⟨_, hlt⟩ (Nat.zero_add _).symm, picked_miss _ 5120 _ (by norm_num) (Or.inl hlt), add_zero,
      slt_word, decide_eq_true h1,
      headTake_apply _ _ b t ⟨_, hlt⟩ (by rw [clipped_apply _ _ b t h0 (by show _ ≤ (5119 : Int); omega)]; exact hn)]
    exact headLogits_apply m c b t _
  · have hlt : (argTG m c (ix2 b t)).toNat - 5120 < 60416 := by omega
    have hs : (subi (argTG m c) (perRow 5120#32) (ix2 b t)).toInt = (argTG m c (ix2 b t)).toInt - 5120 := by
      show (IntOp.subi (argTG m c (ix2 b t)) (perRow 5120#32 (ix2 b t))).toInt = _
      rw [perRow_apply, sub_word _ (by omega) hv]
    rw [picked_miss _ 0 _ (by norm_num) (Or.inr (by omega)), picked_hit _ 5120 _ (by norm_num) ⟨_, hlt⟩ (by show _ = 5120 + (_ - 5120); omega), zero_add,
      slt_word, decide_eq_false h1,
      tailTake_apply _ _ b t ⟨_, hlt⟩ (by
        rw [clipped_apply _ _ b t (by omega) (by rw [hs]; show _ ≤ (60415 : Int); omega), hs]
        show _ = (((argTG m c (ix2 b t)).toNat - 5120 : Nat) : Int)
        omega)]
    exact tailLogits_apply m c b t _

end Cert.ReferenceIdeal.Value

end
-- ==== Proof.Results.lean ====
/-
  The two programs' results are the same: on arguments that agree, with the targets below the vocabulary's end, what each
  run leaves in a result is the same array.
-/
module

public import proofs.«01_k».proof.Defs
public import proofs.«01_k».proof.Proof.Gen.Pre_targets_in_vocab
public import proofs.«01_k».proof.Proof.KernelRun
public import proofs.«01_k».proof.Proof.KernelValue
public import proofs.«01_k».proof.Proof.RefProb
public import Idealize.ShloMosaic.Lib.ReduceAll

@[expose] public section

set_option maxRecDepth 16384

noncomputable section

open Idealize.ShloMosaic hiding ix0 ix1 ix2 ix3 ix4
open Idealize.ShloMosaic.ValueIdx Idealize.SL.Sem Idealize.ShloMosaic.TcCoe

namespace Cert.Proof

/-- The precondition says that each target, read with its sign, is below the vocabulary's end. -/
theorem target_lt (x0 : FVec Ideal Cert.Pre_targets_in_vocab.S8x384x6144 .bf16) (x1 : FVec Ideal Cert.Pre_targets_in_vocab.S5120x6144 .fp8e4m3)
    (x2 : FVec Ideal Cert.Pre_targets_in_vocab.S5120 .f32) (x3 : IVec Cert.Pre_targets_in_vocab.S60416x3072 8)
    (x4 : FVec Ideal Cert.Pre_targets_in_vocab.S60416x48 .bf16) (tg : IVec Cert.Pre_targets_in_vocab.S8x384 32)
    (h : Cert.Pre_targets_in_vocab.fn (F := Ideal) x0 x1 x2 x3 x4 tg = fun _ => 1#1) (b : Fin 8) (t : Fin 384) :
    (tg (ix2 b t)).toInt < 65536 := by
  have : Subsingleton Cert.Pre_targets_in_vocab.S_.Idx := ⟨fun _ _ => funext fun a => a.elim0⟩
  have e := Host.reduce_andi_all _ _ _ _ _ (congrFun h ix0) (ix2 b t)
  have e' : BitVec.ofBool (BitVec.slt (tg (ix2 b t)) 65536#32) = 1#1 := e
  rw [BitVec.slt_eq_decide] at e'
  by_contra hn
  rw [decide_eq_false (by simpa using hn)] at e'
  exact absurd e' (by decide)

/-- Results are the same when they are at every row. -/
theorem rows_ext {u v : (⟨2, ![8, 384]⟩ : Shape).Idx → EReal} (h : ∀ (b : Fin 8) (t : Fin 384), u (ix2 b t) = v (ix2 b t)) : u = v := by
  funext j
  rw [ValueIdx.eq_ix2 j]
  exact h (j 0) (j 1)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories hold the same arguments on a device. -/
structure Agree : Prop where
  x : Cert.ReferenceIdeal.Value.argX m' c = Cert.KernelIdeal.Value.argX m c
  wh : Cert.ReferenceIdeal.Value.argWH m' c = Cert.KernelIdeal.Value.argWH m c
  sh : Cert.ReferenceIdeal.Value.argSH m' c = Cert.KernelIdeal.Value.argSH m c
  wt : Cert.ReferenceIdeal.Value.argWT m' c = Cert.KernelIdeal.Value.argWT m c
  st : Cert.ReferenceIdeal.Value.argST m' c = Cert.KernelIdeal.Value.argST m c
  tg : Cert.ReferenceIdeal.Value.argTG m' c = Cert.KernelIdeal.Value.argTG m c

variable {m m' c} (ha : Agree m m' c)
include ha

/-- The head's logits are the same. -/
theorem headRow_eq (b : Fin 8) (t : Fin 384) : Cert.ReferenceIdeal.Value.headRow m' c b t = Cert.KernelIdeal.Value.headRow m c b t := by
  unfold Cert.ReferenceIdeal.Value.headRow Cert.KernelIdeal.Value.headRow
  rw [ha.x, ha.wh, ha.sh]

/-- The tail's logits are the same. -/
theorem tailRow_eq (b : Fin 8) (t : Fin 384) : Cert.ReferenceIdeal.Value.tailRow m' c b t = Cert.KernelIdeal.Value.tailRow m c b t := by
  unfold Cert.ReferenceIdeal.Value.tailRow Cert.KernelIdeal.Value.tailRow
  rw [ha.x, ha.wt, ha.st]

/-- The logarithms of both sums. -/
theorem lse_eq : (Cert.ReferenceIdeal.Value.R16 m' c (Proc.devRef .tc Cert.ReferenceIdeal.main_v72) : (⟨2, ![8, 384]⟩ : Shape).Idx → EReal)
    = Cert.KernelIdeal.Gen.W16 m ρ c (Proc.devRef .tc Cert.KernelIdeal.main_v25) := by
  rw [Cert.ReferenceIdeal.Value.R16_v72]
  refine rows_ext fun b t => ?_
  refine (Cert.ReferenceIdeal.Value.logits_row m' c b t).trans ?_
  rw [headRow_eq ha, tailRow_eq ha]
  exact (Cert.KernelIdeal.Value.kernel_lse m ρ c b t).symm

/-- The targets' log probabilities. -/
theorem prob_eq (hv : ∀ b t, (Cert.KernelIdeal.Value.argTG m c (ix2 b t)).toInt < 65536) :
    (Cert.ReferenceIdeal.Value.R16 m' c (Proc.devRef .tc Cert.ReferenceIdeal.main_v89) : (⟨2, ![8, 384]⟩ : Shape).Idx → EReal)
    = Cert.KernelIdeal.Gen.W16 m ρ c (Proc.devRef .tc Cert.KernelIdeal.main_v26) := by
  rw [Cert.ReferenceIdeal.Value.R16_v89]
  refine rows_ext fun b t => ?_
  refine (Cert.ReferenceIdeal.Value.prob_row m' c b t (by rw [ha.tg]; exact hv _ _)).trans ?_
  rw [headRow_eq ha, tailRow_eq ha, ha.tg]
  exact (Cert.KernelIdeal.Value.kernel_prob m ρ c b t).symm

/-- The logarithms of the head's sums. -/
theorem lseHead_eq : (Cert.ReferenceIdeal.Value.R16 m' c (Proc.devRef .tc Cert.ReferenceIdeal.main_v54) : (⟨2, ![8, 384]⟩ : Shape).Idx → EReal)
    = Cert.KernelIdeal.Gen.W16 m ρ c (Proc.devRef .tc Cert.KernelIdeal.main_v27) := by
  rw [Cert.ReferenceIdeal.Value.R16_v54]
  refine rows_ext fun b t => ?_
  refine (Cert.ReferenceIdeal.Value.headLse_row m' c b t).trans ?_
  rw [headRow_eq ha]
  exact (Cert.KernelIdeal.Value.kernel_lse_head m ρ c b t).symm

/-- The logarithms of the tail's sums. -/
theorem lseTail_eq : (Cert.ReferenceIdeal.Value.R16 m' c (Proc.devRef .tc Cert.ReferenceIdeal.main_v62) : (⟨2, ![8, 384]⟩ : Shape).Idx → EReal)
    = Cert.KernelIdeal.Gen.W16 m ρ c (Proc.devRef .tc Cert.KernelIdeal.main_v28) := by
  rw [Cert.ReferenceIdeal.Value.R16_v62]
  refine rows_ext fun b t => ?_
  refine (Cert.ReferenceIdeal.Value.tailLse_row m' c b t).trans ?_
  rw [tailRow_eq ha]
  exact (Cert.KernelIdeal.Value.kernel_lse_tail m ρ c b t).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_targets_in_vocab
public import proofs.«01_k».proof.Proof.Results
public import Idealize.ShloMosaic.Adequacy
public import Idealize.ShloMosaic.Init

@[expose] public section

noncomputable section

namespace Cert.Proof

open Idealize.ShloMosaic Idealize.SL.Sem

/-- The kernel runs, quiescent at the end, its arguments unchanged. -/
theorem frame_p : Cert.quiescent_Kernel := fun m ρ _ => Cert.Kernel.Gen.frame m ρ
/-- So does its ideal form. -/
theorem frame_pi : Cert.quiescent_KernelIdeal := fun m ρ _ => Cert.KernelIdeal.Gen.frame m ρ
/-- So does its ideal form under the precondition. -/
theorem frame_pi' : Cert.quiescent_KernelIdeal_pre_targets_in_vocab := fun m ρ _ => Cert.KernelIdeal.Gen.frame m ρ
/-- So does the reference. -/
theorem frame_ri : Cert.quiescent_ReferenceIdeal := fun m ρ _ => Cert.ReferenceIdeal.Gen.frame m ρ
/-- So does the reference under the precondition. -/
theorem frame_ri' : Cert.quiescent_ReferenceIdeal_pre_targets_in_vocab := fun m ρ _ => Cert.ReferenceIdeal.Gen.frame m ρ

/-- The constant named in the ideal form reads as 30 over the logarithm of 2. -/
theorem preserves : Cert.preserves_Kernel_KernelIdeal :=
  IdealRules.named_const.statement Cert.KernelIdeal.κ "softcap_log2e" .f32 0x422D1F97#32 ((30 * (Real.log 2)⁻¹ : ℝ) : EReal) rfl

/-- On the same arguments, with the targets below the vocabulary's end, both programs run and leave the same four results
    and their arguments unchanged. -/
theorem algebraic : Cert.algebraic_KernelIdeal_ReferenceIdeal_pre_targets_in_vocab := by
  intro m g m' g' hp hargs
  have ha : ∀ c, Agree m m' c := fun c =>
    ⟨(hargs c).1, (hargs c).2.1, (hargs c).2.2.1, (hargs c).2.2.2.1, (hargs c).2.2.2.2.1, (hargs c).2.2.2.2.2⟩
  have hv : ∀ (c : Dev Cert.KernelIdeal.nD) (b : Fin 8) (t : Fin 384), (Cert.KernelIdeal.Value.argTG m c (ValueIdx.ix2 b t)).toInt < 65536 :=
    fun c => target_lt _ _ _ _ _ _ (hp c)
  refine ⟨fun c => Cert.KernelIdeal.Gen.W16 m g c (Proc.devRef .tc Cert.KernelIdeal.main_v25),
    fun c => Cert.KernelIdeal.Gen.W16 m g c (Proc.devRef .tc Cert.KernelIdeal.main_v26),
    fun c => Cert.KernelIdeal.Gen.W16 m g c (Proc.devRef .tc Cert.KernelIdeal.main_v27),
    fun c => Cert.KernelIdeal.Gen.W16 m g c (Proc.devRef .tc Cert.KernelIdeal.main_v28),
    Cert.KernelIdeal.Value.run m g, ?_⟩
  refine (θ_run _ _ _).mono (fun r h c => ?_) (Cert.ReferenceIdeal.Value.run m' g')
  obtain ⟨h72, h89, h54, h62⟩ := h.1 c
  exact ⟨h72.trans (lse_eq g (ha c)), h89.trans (prob_eq g (ha c) (hv c)), h54.trans (lseHead_eq g (ha c)),
    h62.trans (lseTail_eq g (ha c)), h.2 c⟩

/-- Everything claimed. -/
theorem claim : Cert.Claim :=
  ⟨Cert.Kernel.Gen.facts, Cert.KernelIdeal.Gen.facts, Cert.ReferenceIdeal.Gen.facts, Cert.Pre_targets_in_vocab.Gen.facts,
    frame_p, frame_pi, frame_pi', frame_ri, frame_ri', preserves, algebraic⟩

end Cert.Proof

end
